-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x3584 : Shape := ⟨3, ![1, 128, 3584]⟩
abbrev S1x128 : Shape := ⟨2, ![1, 128]⟩
abbrev S3x3584x3584 : Shape := ⟨3, ![3, 3584, 3584]⟩
abbrev S3x3584 : Shape := ⟨2, ![3, 3584]⟩
abbrev S128x3584 : Shape := ⟨2, ![128, 3584]⟩
abbrev S3x7x3584x512 : Shape := ⟨4, ![3, 7, 3584, 512]⟩
abbrev S2x128x3584 : Shape := ⟨3, ![2, 128, 3584]⟩
abbrev S2x128 : Shape := ⟨2, ![2, 128]⟩
abbrev S3x7 : Shape := ⟨2, ![3, 7]⟩
abbrev S4 : Shape := ⟨1, ![4]⟩
abbrev S11 : Shape := ⟨1, ![11]⟩
abbrev S1 : Shape := ⟨1, ![1]⟩
abbrev S_ : Shape := ⟨0, ![]⟩
abbrev S1x1 : Shape := ⟨2, ![1, 1]⟩
abbrev S1x1x3584x512 : Shape := ⟨4, ![1, 1, 3584, 512]⟩
abbrev S3584x512 : Shape := ⟨2, ![3584, 512]⟩
abbrev S1x3584x512 : Shape := ⟨3, ![1, 3584, 512]⟩
abbrev S128x128 : Shape := ⟨2, ![128, 128]⟩
abbrev S128x512 : Shape := ⟨2, ![128, 512]⟩
abbrev S1x512 : Shape := ⟨2, ![1, 512]⟩
abbrev S128 : Shape := ⟨1, ![128]⟩
abbrev S128x1 : Shape := ⟨2, ![128, 1]⟩
abbrev S1x128x512 : Shape := ⟨3, ![1, 128, 512]⟩

abbrev nBuf : Space → Nat
  | .hbm => 11
  | .vmem => 9
  | .smem => 0
  | _ => 0

abbrev bufTy : (tb : Table) → Fin (tcTables nBuf tb) → BufTy
  | .hbm, ⟨0, _⟩ => ⟨S1x128x3584, .fp8e4m3⟩
  | .hbm, ⟨1, _⟩ => ⟨S1x128, .f32⟩
  | .hbm, ⟨2, _⟩ => ⟨S3x3584x3584, .fp8e4m3⟩
  | .hbm, ⟨3, _⟩ => ⟨S3x3584, .f32⟩
  | .hbm, ⟨4, _⟩ => ⟨S3x3584, .f32⟩
  | .hbm, ⟨5, _⟩ => ⟨S128x3584, .fp8e4m3⟩
  | .hbm, ⟨6, _⟩ => ⟨S128x3584, .bf16⟩
  | .hbm, ⟨7, _⟩ => ⟨S128x3584, .fp8e4m3⟩
  | .hbm, ⟨8, _⟩ => ⟨S1x128, .f32⟩
  | .hbm, ⟨9, _⟩ => ⟨S128x3584, .fp8e4m3⟩
  | .hbm, ⟨10, _⟩ => ⟨S1x128, .f32⟩
  | .local _ .vmem, ⟨0, _⟩ => ⟨S3x7x3584x512, .fp8e4m3⟩
  | .local _ .vmem, ⟨1, _⟩ => ⟨S128x3584, .fp8e4m3⟩
  | .local _ .vmem, ⟨2, _⟩ => ⟨S1x128, .f32⟩
  | .local _ .vmem, ⟨3, _⟩ => ⟨S3x3584, .f32⟩
  | .local _ .vmem, ⟨4, _⟩ => ⟨S3x3584, .f32⟩
  | .local _ .vmem, ⟨5, _⟩ => ⟨S128x3584, .f32⟩
  | .local _ .vmem, ⟨6, _⟩ => ⟨S2x128x3584, .fp8e4m3⟩
  | .local _ .vmem, ⟨7, _⟩ => ⟨S2x128, .f32⟩
  | .local _ .vmem, ⟨8, _⟩ => ⟨S128x3584, .bf16⟩
  | _, _ => ⟨S1x128x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩

abbrev nD : Nat := 1
abbrev τ : Topo := Topo.v7x

variable {F : FTy → Type} [FloatOps F]

abbrev grid0 : Pipeline.Grid := .none
-- ==== ReferenceIdeal.lean ====
abbrev S1x128x3584 : Shape := ⟨3, ![1, 128, 3584]⟩
abbrev S1x128 : Shape := ⟨2, ![1, 128]⟩
abbrev S3x3584x3584 : Shape := ⟨3, ![3, 3584, 3584]⟩
abbrev S3x3584 : Shape := ⟨2, ![3, 3584]⟩
abbrev S128x3584 : Shape := ⟨2, ![128, 3584]⟩
abbrev S128x1 : Shape := ⟨2, ![128, 1]⟩
abbrev S1x3584x3584 : Shape := ⟨3, ![1, 3584, 3584]⟩
abbrev S3584x3584 : Shape := ⟨2, ![3584, 3584]⟩
abbrev S1x3584 : Shape := ⟨2, ![1, 3584]⟩
abbrev S128 : Shape := ⟨1, ![128]⟩

abbrev nBuf : Space → Nat
  | .hbm => 12
  | .vmem => 10
  | .smem => 0
  | _ => 0

abbrev bufTy : (tb : Table) → Fin (tcTables nBuf tb) → BufTy
  | .hbm, ⟨0, _⟩ => ⟨S1x128x3584, .fp8e4m3⟩
  | .hbm, ⟨1, _⟩ => ⟨S1x128, .f32⟩
  | .hbm, ⟨2, _⟩ => ⟨S3x3584x3584, .fp8e4m3⟩
  | .hbm, ⟨3, _⟩ => ⟨S3x3584, .f32⟩
  | .hbm, ⟨4, _⟩ => ⟨S3x3584, .f32⟩
  | .hbm, ⟨5, _⟩ => ⟨S128x3584, .fp8e4m3⟩
  | .hbm, ⟨6, _⟩ => ⟨S128x1, .f32⟩
  | .hbm, ⟨7, _⟩ => ⟨S128x3584, .bf16⟩
  | .hbm, ⟨8, _⟩ => ⟨S128x3584, .fp8e4m3⟩
  | .hbm, ⟨9, _⟩ => ⟨S1x128, .f32⟩
  | .hbm, ⟨10, _⟩ => ⟨S128x3584, .fp8e4m3⟩
  | .hbm, ⟨11, _⟩ => ⟨S1x128, .f32⟩
  | .local _ .vmem, ⟨0, _⟩ => ⟨S128x3584, .fp8e4m3⟩
  | .local _ .vmem, ⟨1, _⟩ => ⟨S128x1, .f32⟩
  | .local _ .vmem, ⟨2, _⟩ => ⟨S3x3584x3584, .fp8e4m3⟩
  | .local _ .vmem, ⟨3, _⟩ => ⟨S3x3584, .f32⟩
  | .local _ .vmem, ⟨4, _⟩ => ⟨S3x3584, .f32⟩
  | .local _ .vmem, ⟨5, _⟩ => ⟨S128x3584, .bf16⟩
  | .local _ .vmem, ⟨6, _⟩ => ⟨S128x3584, .fp8e4m3⟩
  | .local _ .vmem, ⟨7, _⟩ => ⟨S1x128, .f32⟩
  | .local _ .vmem, ⟨8, _⟩ => ⟨S128x3584, .fp8e4m3⟩
  | .local _ .vmem, ⟨9, _⟩ => ⟨S1x128, .f32⟩
  | _, _ => ⟨S1x128x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S128x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3584x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x3584 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelIdeal.Pieces.lean ====
module

public import proofs.«01_k».proof.Proof.Gen.KernelIdeal.Points
public import Idealize.ShloMosaic.Lib.Pipeline.FrameBody
public import Idealize.ShloMosaic.Lib.Ring

/-!
The buffers of the kernel as the proof holds them.

The weight buffer is one array of 21 blocks, one per layer and column block, and each block receives its own
transfer while the others are read. The output array is written by seven transfers, one per column block. The buffer
of quantised rows has one slab per layer boundary, and one slab flies out while the other is written. So the proof holds
these three buffers piece by piece. This file names the pieces and proves that a whole buffer is its pieces.
-/

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The operands and the scratch buffers, whole -/

abbrev hbM0 : Memref sig .tc .hbm S128x3584 .fp8e4m3 := Memref.whole main_v0
abbrev hbM1 : Memref sig .tc .hbm S1x128 .f32 := Memref.whole main_arg1
abbrev hbM2 : Memref sig .tc .hbm S3x3584x3584 .fp8e4m3 := Memref.whole main_arg2
abbrev hbM3 : Memref sig .tc .hbm S3x3584 .f32 := Memref.whole main_arg3
abbrev hbM4 : Memref sig .tc .hbm S3x3584 .f32 := Memref.whole main_arg4
abbrev hbM5 : Memref sig .tc .hbm S128x3584 .bf16 := Memref.whole main_v1_0
abbrev hbM6 : Memref sig .tc .hbm S128x3584 .fp8e4m3 := Memref.whole main_v1_1
abbrev hbM7 : Memref sig .tc .hbm S1x128 .f32 := Memref.whole main_v1_2
abbrev hbM8 : Memref sig .tc .hbm S128x3584 .fp8e4m3 := Memref.whole main_v1_3
abbrev hbM9 : Memref sig .tc .hbm S1x128 .f32 := Memref.whole main_v1_4
abbrev scM0 : Memref sig .tc .vmem S3x7x3584x512 .fp8e4m3 := Memref.whole cc0_scratch0
abbrev scM1 : Memref sig .tc .vmem S128x3584 .fp8e4m3 := Memref.whole cc0_scratch1
abbrev scM2 : Memref sig .tc .vmem S1x128 .f32 := Memref.whole cc0_scratch2
abbrev scM3 : Memref sig .tc .vmem S3x3584 .f32 := Memref.whole cc0_scratch3
abbrev scM4 : Memref sig .tc .vmem S3x3584 .f32 := Memref.whole cc0_scratch4
abbrev scM5 : Memref sig .tc .vmem S128x3584 .f32 := Memref.whole cc0_scratch5
abbrev scM6 : Memref sig .tc .vmem S2x128x3584 .fp8e4m3 := Memref.whole cc0_scratch6
abbrev scM7 : Memref sig .tc .vmem S2x128 .f32 := Memref.whole cc0_scratch7
abbrev scM8 : Memref sig .tc .vmem S128x3584 .bf16 := Memref.whole cc0_scratch8

/-- The contents of the buffer behind a memref. -/
abbrev BufOf (c : Dev nD) {sp : Space} {S : Shape} {e : EltTy} (M : Memref sig .tc sp S e) : Type := Buf (Elt F) (M.view.loc (c : Thread nD τ))
/-- A buffer held whole. -/
abbrev pt (c : Dev nD) {sp : Space} {S : Shape} {e : EltTy} (M : Memref sig .tc sp S e) (f : BufOf (F := F) c M) : sProp 𝕄 :=
  M.view.loc (c : Thread nD τ) ↦{fullShare} f

/-- The part of a buffer inside a rectangle, held. -/
abbrev ptOn (c : Dev nD) {sp : Space} {S : Shape} {e : EltTy} (M : Memref sig .tc sp S e) (R : Rect S) (f : BufOf (F := F) c M) : sProp 𝕄 :=
  M.view.loc (c : Thread nD τ) ↦[M.view.setOn R.set]{fullShare} f

/-! ## The pieces -/

abbrev slab0 : Rect S2x128x3584 := Rect.unit ![0, 0, 0] S1x128x3584.size inb_S2x128x3584_S1x128x3584_0_0_0
abbrev slab1 : Rect S2x128x3584 := Rect.unit ![1, 0, 0] S1x128x3584.size inb_S2x128x3584_S1x128x3584_1_0_0
abbrev wR00 : Rect S3x7x3584x512 := Rect.unit ![0, 0, 0, 0] S1x1x3584x512.size inb_S3x7x3584x512_S1x1x3584x512_0_0_0_0
abbrev wR01 : Rect S3x7x3584x512 := Rect.unit ![0, 1, 0, 0] S1x1x3584x512.size inb_S3x7x3584x512_S1x1x3584x512_0_1_0_0
abbrev wR02 : Rect S3x7x3584x512 := Rect.unit ![0, 2, 0, 0] S1x1x3584x512.size inb_S3x7x3584x512_S1x1x3584x512_0_2_0_0
abbrev wR03 : Rect S3x7x3584x512 := Rect.unit ![0, 3, 0, 0] S1x1x3584x512.size inb_S3x7x3584x512_S1x1x3584x512_0_3_0_0
abbrev wR04 : Rect S3x7x3584x512 := Rect.unit ![0, 4, 0, 0] S1x1x3584x512.size inb_S3x7x3584x512_S1x1x3584x512_0_4_0_0
abbrev wR05 : Rect S3x7x3584x512 := Rect.unit ![0, 5, 0, 0] S1x1x3584x512.size inb_S3x7x3584x512_S1x1x3584x512_0_5_0_0
abbrev wR06 : Rect S3x7x3584x512 := Rect.unit ![0, 6, 0, 0] S1x1x3584x512.size inb_S3x7x3584x512_S1x1x3584x512_0_6_0_0
abbrev wR10 : Rect S3x7x3584x512 := Rect.unit ![1, 0, 0, 0] S1x1x3584x512.size inb_S3x7x3584x512_S1x1x3584x512_1_0_0_0
abbrev wR11 : Rect S3x7x3584x512 := Rect.unit ![1, 1, 0, 0] S1x1x3584x512.size inb_S3x7x3584x512_S1x1x3584x512_1_1_0_0
abbrev wR12 : Rect S3x7x3584x512 := Rect.unit ![1, 2, 0, 0] S1x1x3584x512.size inb_S3x7x3584x512_S1x1x3584x512_1_2_0_0
abbrev wR13 : Rect S3x7x3584x512 := Rect.unit ![1, 3, 0, 0] S1x1x3584x512.size inb_S3x7x3584x512_S1x1x3584x512_1_3_0_0
abbrev wR14 : Rect S3x7x3584x512 := Rect.unit ![1, 4, 0, 0] S1x1x3584x512.size inb_S3x7x3584x512_S1x1x3584x512_1_4_0_0
abbrev wR15 : Rect S3x7x3584x512 := Rect.unit ![1, 5, 0, 0] S1x1x3584x512.size inb_S3x7x3584x512_S1x1x3584x512_1_5_0_0
abbrev wR16 : Rect S3x7x3584x512 := Rect.unit ![1, 6, 0, 0] S1x1x3584x512.size inb_S3x7x3584x512_S1x1x3584x512_1_6_0_0
abbrev wR20 : Rect S3x7x3584x512 := Rect.unit ![2, 0, 0, 0] S1x1x3584x512.size inb_S3x7x3584x512_S1x1x3584x512_2_0_0_0
abbrev wR21 : Rect S3x7x3584x512 := Rect.unit ![2, 1, 0, 0] S1x1x3584x512.size inb_S3x7x3584x512_S1x1x3584x512_2_1_0_0
abbrev wR22 : Rect S3x7x3584x512 := Rect.unit ![2, 2, 0, 0] S1x1x3584x512.size inb_S3x7x3584x512_S1x1x3584x512_2_2_0_0
abbrev wR23 : Rect S3x7x3584x512 := Rect.unit ![2, 3, 0, 0] S1x1x3584x512.size inb_S3x7x3584x512_S1x1x3584x512_2_3_0_0
abbrev wR24 : Rect S3x7x3584x512 := Rect.unit ![2, 4, 0, 0] S1x1x3584x512.size inb_S3x7x3584x512_S1x1x3584x512_2_4_0_0
abbrev wR25 : Rect S3x7x3584x512 := Rect.unit ![2, 5, 0, 0] S1x1x3584x512.size inb_S3x7x3584x512_S1x1x3584x512_2_5_0_0
abbrev wR26 : Rect S3x7x3584x512 := Rect.unit ![2, 6, 0, 0] S1x1x3584x512.size inb_S3x7x3584x512_S1x1x3584x512_2_6_0_0
abbrev oR0 : Rect S128x3584 := Rect.unit ![0, 0] S128x512.size inb_S128x3584_S128x512_0_0
abbrev oR1 : Rect S128x3584 := Rect.unit ![0, 512] S128x512.size inb_S128x3584_S128x512_0_512
abbrev oR2 : Rect S128x3584 := Rect.unit ![0, 1024] S128x512.size inb_S128x3584_S128x512_0_1024
abbrev oR3 : Rect S128x3584 := Rect.unit ![0, 1536] S128x512.size inb_S128x3584_S128x512_0_1536
abbrev oR4 : Rect S128x3584 := Rect.unit ![0, 2048] S128x512.size inb_S128x3584_S128x512_0_2048
abbrev oR5 : Rect S128x3584 := Rect.unit ![0, 2560] S128x512.size inb_S128x3584_S128x512_0_2560
abbrev oR6 : Rect S128x3584 := Rect.unit ![0, 3072] S128x512.size inb_S128x3584_S128x512_0_3072

/-- The block of the weight buffer for layer `b.1` and column block `b.2`. -/
def wRect (b : Fin 3 × Fin 7) : Rect S3x7x3584x512 :=
  Rect.unit ![b.1, b.2, 0, 0] S1x1x3584x512.size (fun a => by fin_cases a <;> simp [S3x7x3584x512, S1x1x3584x512] <;> omega)
/-- The columns of the output array that column block `j` fills. -/
def oRect (j : Fin 7) : Rect S128x3584 :=
  Rect.unit ![0, 512 * j] S128x512.size (fun a => by fin_cases a <;> simp [S128x3584, S128x512] <;> omega)
/-- The slab of quantised rows of layer boundary `l`. -/
def cRect (l : Fin 2) : Rect S2x128x3584 :=
  Rect.unit ![l, 0, 0] S1x128x3584.size (fun a => by fin_cases a <;> simp [S2x128x3584, S1x128x3584] <;> omega)

theorem wRect_disjoint (b b' : Fin 3 × Fin 7) (h : b ≠ b') : Disjoint (wRect b).set (wRect b').set := by
  obtain ⟨l, j⟩ := b
  obtain ⟨l', j'⟩ := b'
  by_cases hl : l = l'
  · have hj : j ≠ j' := fun e => h (by rw [hl, e])
    refine Rect.unit_disjoint 1 ?_
    have : (j : ℕ) ≠ j' := fun e => hj (Fin.ext e)
    simp [S1x1x3584x512]; omega
  · refine Rect.unit_disjoint 0 ?_
    have : (l : ℕ) ≠ l' := fun e => hl (Fin.ext e)
    simp [S1x1x3584x512]; omega
theorem oRect_disjoint (j j' : Fin 7) (h : j ≠ j') : Disjoint (oRect j).set (oRect j').set := by
  refine Rect.unit_disjoint 1 ?_
  have : (j : ℕ) ≠ j' := fun e => h (Fin.ext e)
  simp [S128x512]; omega
theorem cRect_disjoint (l l' : Fin 2) (h : l ≠ l') : Disjoint (cRect l).set (cRect l').set := by
  refine Rect.unit_disjoint 0 ?_
  have : (l : ℕ) ≠ l' := fun e => h (Fin.ext e)
  simp [S1x128x3584]; omega

theorem wRect_cover (i : S3x7x3584x512.Idx) : ∃ b, i ∈ (wRect b).set := by
  refine ⟨(i 0, i 1), Rect.mem_set_unit.mpr fun a => ?_⟩
  have := (i a).isLt
  fin_cases a <;> simp [S3x7x3584x512, S1x1x3584x512] at this ⊢ <;> omega
theorem oRect_cover (i : S128x3584.Idx) : ∃ j, i ∈ (oRect j).set := by
  have h1 : (i 1 : ℕ) < 3584 := (i 1).isLt
  refine ⟨⟨(i 1 : ℕ) / 512, by omega⟩, Rect.mem_set_unit.mpr fun a => ?_⟩
  have := (i a).isLt
  fin_cases a <;> simp [S128x3584, S128x512] at this ⊢ <;> omega
theorem cRect_cover (i : S2x128x3584.Idx) : ∃ l, i ∈ (cRect l).set := by
  refine ⟨i 0, Rect.mem_set_unit.mpr fun a => ?_⟩
  have := (i a).isLt
  fin_cases a <;> simp [S2x128x3584, S1x128x3584] at this ⊢ <;> omega

section Family
variable {B : Type} [Fintype B] [DecidableEq B] {sp : Space} {S : Shape} {e : EltTy} (M : Memref sig .tc sp S e) (R : B → Rect S)

/-- Disjoint rectangles are disjoint sets of elements of the buffer. -/
theorem family_disjoint (hd : ∀ b b', b ≠ b' → Disjoint (R b).set (R b').set) (b b' : B) (h : b ≠ b') :
    Disjoint (M.view.setOn (R b).set) (M.view.setOn (R b').set) := by
  unfold View.setOn
  exact (Finset.disjoint_map _).mpr (hd b b' h)
/-- Rectangles that cover the shape cover a whole buffer. -/
theorem family_cover (hM : M.view.set = Finset.univ) (hc : ∀ i, ∃ b, i ∈ (R b).set) :
    (Finset.univ : Finset B).biUnion (fun b => M.view.setOn (R b).set) = Finset.univ := by
  ext i
  refine ⟨fun _ => Finset.mem_univ _, fun _ => ?_⟩
  have hi : i ∈ M.view.set := hM ▸ Finset.mem_univ i
  rw [View.set, Finset.mem_map] at hi
  obtain ⟨x, -, rfl⟩ := hi
  obtain ⟨b, hb⟩ := hc x
  exact Finset.mem_biUnion.mpr ⟨b, Finset.mem_univ _, (View.mem_setOn _).mpr hb⟩
end Family

/-! ## A whole buffer is its pieces -/

theorem weights_split (c : Dev nD) (f : BufOf (F := F) c scM0) : pt c scM0 f ⊢
    iprop(ptOn c scM0 wR00 f ∗ ptOn c scM0 wR01 f ∗ ptOn c scM0 wR02 f ∗ ptOn c scM0 wR03 f ∗ ptOn c scM0 wR04 f ∗ ptOn c scM0 wR05 f ∗ ptOn c scM0 wR06 f ∗ ptOn c scM0 wR10 f ∗ ptOn c scM0 wR11 f ∗ ptOn c scM0 wR12 f ∗ ptOn c scM0 wR13 f ∗ ptOn c scM0 wR14 f ∗ ptOn c scM0 wR15 f ∗ ptOn c scM0 wR16 f ∗ ptOn c scM0 wR20 f ∗ ptOn c scM0 wR21 f ∗ ptOn c scM0 wR22 f ∗ ptOn c scM0 wR23 f ∗ ptOn c scM0 wR24 f ∗ ptOn c scM0 wR25 f ∗ ptOn c scM0 wR26 f) := by
  refine Entails.of_eq ((Ring.pointsTo_blocks (fun b => scM0.view.setOn (wRect b).set) (family_disjoint scM0 wRect wRect_disjoint)
    (family_cover scM0 wRect (View.set_whole _) wRect_cover) f).trans ?_)
  rw [BI.bigSep_univ_eq_bigSepL [(0, 0), (0, 1), (0, 2), (0, 3), (0, 4), (0, 5), (0, 6), (1, 0), (1, 1), (1, 2), (1, 3), (1, 4), (1, 5), (1, 6), (2, 0), (2, 1), (2, 2), (2, 3), (2, 4), (2, 5), (2, 6)] (by decide) (by decide)]
  rfl
theorem weights_join (c : Dev nD) :
    iprop((∃ f, ptOn (F := F) c scM0 wR00 f) ∗ (∃ f, ptOn (F := F) c scM0 wR01 f) ∗ (∃ f, ptOn (F := F) c scM0 wR02 f) ∗ (∃ f, ptOn (F := F) c scM0 wR03 f) ∗ (∃ f, ptOn (F := F) c scM0 wR04 f) ∗ (∃ f, ptOn (F := F) c scM0 wR05 f) ∗ (∃ f, ptOn (F := F) c scM0 wR06 f) ∗ (∃ f, ptOn (F := F) c scM0 wR10 f) ∗ (∃ f, ptOn (F := F) c scM0 wR11 f) ∗ (∃ f, ptOn (F := F) c scM0 wR12 f) ∗ (∃ f, ptOn (F := F) c scM0 wR13 f) ∗ (∃ f, ptOn (F := F) c scM0 wR14 f) ∗ (∃ f, ptOn (F := F) c scM0 wR15 f) ∗ (∃ f, ptOn (F := F) c scM0 wR16 f) ∗ (∃ f, ptOn (F := F) c scM0 wR20 f) ∗ (∃ f, ptOn (F := F) c scM0 wR21 f) ∗ (∃ f, ptOn (F := F) c scM0 wR22 f) ∗ (∃ f, ptOn (F := F) c scM0 wR23 f) ∗ (∃ f, ptOn (F := F) c scM0 wR24 f) ∗ (∃ f, ptOn (F := F) c scM0 wR25 f) ∗ (∃ f, ptOn (F := F) c scM0 wR26 f))
      ⊢ iprop(∃ f, pt (F := F) c scM0 f) := by
  refine (Entails.of_eq ?_).trans (Ring.pointsTo_blocks_join_exists (fun b => scM0.view.setOn (wRect b).set)
    (family_disjoint scM0 wRect wRect_disjoint) (family_cover scM0 wRect (View.set_whole _) wRect_cover)
    (fun _ => (Classical.ofNonempty : Elt F _)))
  rw [BI.bigSep_univ_eq_bigSepL [(0, 0), (0, 1), (0, 2), (0, 3), (0, 4), (0, 5), (0, 6), (1, 0), (1, 1), (1, 2), (1, 3), (1, 4), (1, 5), (1, 6), (2, 0), (2, 1), (2, 2), (2, 3), (2, 4), (2, 5), (2, 6)] (by decide) (by decide)]
  rfl

theorem codes_split (c : Dev nD) (f : BufOf (F := F) c scM6) : pt c scM6 f ⊢ iprop(ptOn c scM6 slab0 f ∗ ptOn c scM6 slab1 f) := by
  refine Entails.of_eq ((Ring.pointsTo_blocks (fun b => scM6.view.setOn (cRect b).set) (family_disjoint scM6 cRect cRect_disjoint)
    (family_cover scM6 cRect (View.set_whole _) cRect_cover) f).trans ?_)
  rw [BI.bigSep_univ_eq_bigSepL [0, 1] (by decide) (by decide)]
  rfl
theorem codes_join (c : Dev nD) : iprop((∃ f, ptOn (F := F) c scM6 slab0 f) ∗ (∃ f, ptOn (F := F) c scM6 slab1 f))
      ⊢ iprop(∃ f, pt (F := F) c scM6 f) := by
  refine (Entails.of_eq ?_).trans (Ring.pointsTo_blocks_join_exists (fun b => scM6.view.setOn (cRect b).set)
    (family_disjoint scM6 cRect cRect_disjoint) (family_cover scM6 cRect (View.set_whole _) cRect_cover)
    (fun _ => (Classical.ofNonempty : Elt F _)))
  rw [BI.bigSep_univ_eq_bigSepL [0, 1] (by decide) (by decide)]
  rfl

theorem out_split (c : Dev nD) (f : BufOf (F := F) c hbM5) : pt c hbM5 f ⊢
    iprop(ptOn c hbM5 oR0 f ∗ ptOn c hbM5 oR1 f ∗ ptOn c hbM5 oR2 f ∗ ptOn c hbM5 oR3 f ∗ ptOn c hbM5 oR4 f ∗ ptOn c hbM5 oR5 f ∗ ptOn c hbM5 oR6 f) := by
  refine Entails.of_eq ((Ring.pointsTo_blocks (fun b => hbM5.view.setOn (oRect b).set) (family_disjoint hbM5 oRect oRect_disjoint)
    (family_cover hbM5 oRect (View.set_whole _) oRect_cover) f).trans ?_)
  rw [BI.bigSep_univ_eq_bigSepL [0, 1, 2, 3, 4, 5, 6] (by decide) (by decide)]
  rfl
/-- The joined output array agrees with each piece on its columns. -/
theorem out_join (c : Dev nD) (fs : Fin 7 → BufOf (F := F) c hbM5) :
    iprop(ptOn c hbM5 oR0 (fs 0) ∗ ptOn c hbM5 oR1 (fs 1) ∗ ptOn c hbM5 oR2 (fs 2) ∗ ptOn c hbM5 oR3 (fs 3) ∗ ptOn c hbM5 oR4 (fs 4) ∗ ptOn c hbM5 oR5 (fs 5) ∗ ptOn c hbM5 oR6 (fs 6))
      ⊢ iprop(∃ g, ⌜∀ j, ∀ i ∈ hbM5.view.setOn (oRect j).set, g i = fs j i⌝ ∗ pt (F := F) c hbM5 g) := by
  refine (Entails.of_eq ?_).trans ((pointsTo_biUnion_join (q := fullShare) Finset.univ (fun b => hbM5.view.setOn (oRect b).set) fs (fs 0)
    (fun b _ b' _ h => family_disjoint hbM5 oRect oRect_disjoint b b' h)).trans ?_)
  · rw [BI.bigSep_univ_eq_bigSepL [0, 1, 2, 3, 4, 5, 6] (by decide) (by decide)]
    rfl
  · rw [family_cover hbM5 oRect (View.set_whole _) oRect_cover]
    iintro ⟨%g, %hg, H⟩
    iexists g
    isplitr
    · ipureintro; exact fun j i hi => hg j (Finset.mem_univ _) i hi
    · iexact H

/-- The two halves of a piece lent out and come back are the piece. -/
theorem halves_join (c : Dev nD) (f : BufOf (F := F) c scM6) :
    iprop((scM6.view.loc (c : Thread nD τ) ↦[scM6.view.setOn slab0.set]{fullShare.left} f)
      ∗ (scM6.view.loc (c : Thread nD τ) ↦[scM6.view.setOn slab0.set]{fullShare.right} f)) ⊢ ptOn c scM6 slab0 f :=
  (pointsTo_share (PosShare.mem_left_op_right fullShare)).2

end Cert.KernelIdeal.Hand

end
-- ==== Proof.KernelIdeal.Run.lean ====
module

public import proofs.«01_k».proof.Proof.KernelIdeal.Pieces
public import proofs.«01_k».proof.Proof.Gen.KernelIdeal.Skeleton
public import Idealize.ShloMosaic.Lib.Tactic

/-!
The body of the kernel, run once from its first statement to its last.

`kernelRun` holds the operands, the scratch buffers and the semaphores, each at given contents, and concludes that the body
runs without fault, gives every buffer back, leaves every semaphore at zero, and leaves in the five result arrays the
contents that it names (`Vals`). The contents are found by the run itself: they are the composition of the values
that the statements of the body compute.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- An assertion set aside, so that the run does not look into it. -/
@[irreducible] def parked (P : sProp 𝕄) : sProp 𝕄 := P
theorem park (P : sProp 𝕄) : P ⊢ parked P := by unfold parked; exact BIBase.Entails.rfl
theorem unpark (P : sProp 𝕄) : parked P ⊢ P := by unfold parked; exact BIBase.Entails.rfl

/-- What the body leaves in the five result arrays: of the output, the pieces written into each column block; the quantised
    rows and the scales of the two layer boundaries. -/
structure Vals (F : FTy → Type) where
  o0 : List (View.Piece (Elt F) S128x3584 .bf16)
  o1 : List (View.Piece (Elt F) S128x3584 .bf16)
  o2 : List (View.Piece (Elt F) S128x3584 .bf16)
  o3 : List (View.Piece (Elt F) S128x3584 .bf16)
  o4 : List (View.Piece (Elt F) S128x3584 .bf16)
  o5 : List (View.Piece (Elt F) S128x3584 .bf16)
  o6 : List (View.Piece (Elt F) S128x3584 .bf16)
  c1 : S128x3584.Idx → Elt F .fp8e4m3
  s1 : S1x128.Idx → Elt F .f32
  c2 : S128x3584.Idx → Elt F .fp8e4m3
  s2 : S1x128.Idx → Elt F .f32

/-- The kernel's semaphores of core `c`, all at zero. -/
abbrev semsAt0 (c : Dev nD) : sProp 𝕄 :=
  iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0)

set_option sl_exec.lendShare "HC0, HC1" in
/-- The operands at `x0 … x4`, the result arrays at anything, the scratch buffers at `z0 … z8` and the semaphores at zero: the
    body runs, and afterwards the operands are unchanged, the result arrays hold the named values, the scratch
    buffers hold something and the semaphores are at zero. -/
def kernelRun (c : Dev nD)
    (x0 : BufOf (F := F) c hbM0) (x1 : BufOf (F := F) c hbM1) (x2 : BufOf (F := F) c hbM2) (x3 : BufOf (F := F) c hbM3) (x4 : BufOf (F := F) c hbM4)
    (z0 : BufOf (F := F) c scM0) (z1 : BufOf (F := F) c scM1) (z2 : BufOf (F := F) c scM2) (z3 : BufOf (F := F) c scM3) (z4 : BufOf (F := F) c scM4)
    (z5 : BufOf (F := F) c scM5) (z6 : BufOf (F := F) c scM6) (z7 : BufOf (F := F) c scM7) (z8 : BufOf (F := F) c scM8) :
    { v : Vals F //
      ∀ (y0 : BufOf (F := F) c hbM5) (y1 : BufOf (F := F) c hbM6) (y2 : BufOf (F := F) c hbM7) (y3 : BufOf (F := F) c hbM8) (y4 : BufOf (F := F) c hbM9)
        (W : Waits sig Unit) (K : PUnit → sProp 𝕄),
        iprop(pt c hbM0 x0 ∗ pt c hbM1 x1 ∗ pt c hbM2 x2 ∗ pt c hbM3 x3 ∗ pt c hbM4 x4
        ∗ ptOn c hbM5 oR0 y0 ∗ ptOn c hbM5 oR1 y0 ∗ ptOn c hbM5 oR2 y0 ∗ ptOn c hbM5 oR3 y0 ∗ ptOn c hbM5 oR4 y0 ∗ ptOn c hbM5 oR5 y0 ∗ ptOn c hbM5 oR6 y0
        ∗ pt c hbM6 y1 ∗ pt c hbM7 y2 ∗ pt c hbM8 y3 ∗ pt c hbM9 y4
        ∗ ptOn c scM0 wR00 z0 ∗ ptOn c scM0 wR01 z0 ∗ ptOn c scM0 wR02 z0 ∗ ptOn c scM0 wR03 z0 ∗ ptOn c scM0 wR04 z0 ∗ ptOn c scM0 wR05 z0 ∗ ptOn c scM0 wR06 z0 ∗ ptOn c scM0 wR10 z0 ∗ ptOn c scM0 wR11 z0 ∗ ptOn c scM0 wR12 z0 ∗ ptOn c scM0 wR13 z0 ∗ ptOn c scM0 wR14 z0 ∗ ptOn c scM0 wR15 z0 ∗ ptOn c scM0 wR16 z0 ∗ ptOn c scM0 wR20 z0 ∗ ptOn c scM0 wR21 z0 ∗ ptOn c scM0 wR22 z0 ∗ ptOn c scM0 wR23 z0 ∗ ptOn c scM0 wR24 z0 ∗ ptOn c scM0 wR25 z0 ∗ ptOn c scM0 wR26 z0
        ∗ pt c scM1 z1 ∗ pt c scM2 z2 ∗ pt c scM3 z3 ∗ pt c scM4 z4 ∗ pt c scM5 z5
        ∗ ptOn c scM6 slab0 z6 ∗ ptOn c scM6 slab1 z6 ∗ pt c scM7 z7 ∗ pt c scM8 z8
        ∗ semsAt0 c ∗ owes (c : Thread nD τ) 0 W
          ∗ (iprop(pt c hbM0 x0 ∗ pt c hbM1 x1 ∗ pt c hbM2 x2 ∗ pt c hbM3 x3 ∗ pt c hbM4 x4
            ∗ ptOn c hbM5 oR0 (hbM5.view.writes (Elt F) y0 v.o0) ∗ ptOn c hbM5 oR1 (hbM5.view.writes (Elt F) y0 v.o1) ∗ ptOn c hbM5 oR2 (hbM5.view.writes (Elt F) y0 v.o2) ∗ ptOn c hbM5 oR3 (hbM5.view.writes (Elt F) y0 v.o3) ∗ ptOn c hbM5 oR4 (hbM5.view.writes (Elt F) y0 v.o4) ∗ ptOn c hbM5 oR5 (hbM5.view.writes (Elt F) y0 v.o5) ∗ ptOn c hbM5 oR6 (hbM5.view.writes (Elt F) y0 v.o6)
            ∗ pt c hbM6 (View.write (Elt F) hbM6.view y1 v.c1 Finset.univ) ∗ pt c hbM7 (View.write (Elt F) hbM7.view y2 v.s1 Finset.univ)
            ∗ pt c hbM8 (View.write (Elt F) hbM8.view y3 v.c2 Finset.univ) ∗ pt c hbM9 (View.write (Elt F) hbM9.view y4 v.s2 Finset.univ)
            ∗ (∃ f, ptOn (F := F) c scM0 wR00 f) ∗ (∃ f, ptOn (F := F) c scM0 wR01 f) ∗ (∃ f, ptOn (F := F) c scM0 wR02 f) ∗ (∃ f, ptOn (F := F) c scM0 wR03 f) ∗ (∃ f, ptOn (F := F) c scM0 wR04 f) ∗ (∃ f, ptOn (F := F) c scM0 wR05 f) ∗ (∃ f, ptOn (F := F) c scM0 wR06 f) ∗ (∃ f, ptOn (F := F) c scM0 wR10 f) ∗ (∃ f, ptOn (F := F) c scM0 wR11 f) ∗ (∃ f, ptOn (F := F) c scM0 wR12 f) ∗ (∃ f, ptOn (F := F) c scM0 wR13 f) ∗ (∃ f, ptOn (F := F) c scM0 wR14 f) ∗ (∃ f, ptOn (F := F) c scM0 wR15 f) ∗ (∃ f, ptOn (F := F) c scM0 wR16 f) ∗ (∃ f, ptOn (F := F) c scM0 wR20 f) ∗ (∃ f, ptOn (F := F) c scM0 wR21 f) ∗ (∃ f, ptOn (F := F) c scM0 wR22 f) ∗ (∃ f, ptOn (F := F) c scM0 wR23 f) ∗ (∃ f, ptOn (F := F) c scM0 wR24 f) ∗ (∃ f, ptOn (F := F) c scM0 wR25 f) ∗ (∃ f, ptOn (F := F) c scM0 wR26 f)
            ∗ (∃ f, pt (F := F) c scM1 f) ∗ (∃ f, pt (F := F) c scM2 f) ∗ (∃ f, pt (F := F) c scM3 f) ∗ (∃ f, pt (F := F) c scM4 f) ∗ (∃ f, pt (F := F) c scM5 f)
            ∗ (∃ f, ptOn (F := F) c scM6 slab0 f) ∗ (∃ f, ptOn (F := F) c scM6 slab1 f) ∗ (∃ f, pt (F := F) c scM7 f) ∗ (∃ f, pt (F := F) c scM8 f)
            ∗ semsAt0 c ∗ (∃ W', owes (c : Thread nD τ) 0 W')) -∗ K ⟨⟩))
          ⊢ wp frame (wpE (defs₀ (F := F)) Variants.none c none) Set.univ
            (cc0_dcn_v2_cross hbM0 (Memref.isWhole_whole _) hbM1 (Memref.isWhole_whole _) hbM2 (Memref.isWhole_whole _) hbM3 (Memref.isWhole_whole _) hbM4 (Memref.isWhole_whole _)
              hbM5 (Memref.isWhole_whole _) hbM6 (Memref.isWhole_whole _) hbM7 (Memref.isWhole_whole _) hbM8 (Memref.isWhole_whole _) hbM9 (Memref.isWhole_whole _)
              scM0 (Memref.isWhole_whole _) scM1 (Memref.isWhole_whole _) scM2 (Memref.isWhole_whole _) scM3 (Memref.isWhole_whole _) scM4 (Memref.isWhole_whole _)
              scM5 (Memref.isWhole_whole _) scM6 (Memref.isWhole_whole _) scM7 (Memref.isWhole_whole _) scM8 (Memref.isWhole_whole _) cc0_scratch9 cc0_scratch10 cc0_scratch11) K } := by
  refine ⟨⟨?_, ?_, ?_, ?_, ?_, ?_, ?_, ?_, ?_, ?_, ?_⟩, fun y0 y1 y2 y3 y4 W K => ?run⟩
  case run =>
    simp only [cc0_dcn_v2_cross_eq_skeleton]; unfold cc0_dcn_v2_cross_skel
    iintro ⟨HX0, HX1, HX2, HX3, HX4, HY00, HY01, HY02, HY03, HY04, HY05, HY06, HY1, HY2, HY3, HY4, HW00, HW01, HW02, HW03, HW04, HW05, HW06, HW10, HW11, HW12, HW13, HW14, HW15, HW16, HW20, HW21, HW22, HW23, HW24, HW25, HW26, HZ1, HZ2, HZ3, HZ4, HZ5, HC0, HC1, HZ7, HZ8, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35⟩, HO, Hk⟩
    ihave HC1p := (park _) $$ HC1
    set_option sl_exec.stopBefore "k0_part27" in sl_exec_parts
    ihave HC1 := (unpark _) $$ HC1p
    ihave HC0p := (park _) $$ HC0
    sl_exec_parts
    sl_step
    ihave HC0 := (unpark _) $$ HC0p
    ihave HC0w := (halves_join c _) $$ [HC0 HC0_lend]
    · isplitl [HC0]; · iexact HC0
      iexact HC0_lend
    iapply Hk
    isplitl [HX0]; · iexact HX0
    isplitl [HX1]; · iexact HX1
    isplitl [HX2]; · iexact HX2
    isplitl [HX3]; · iexact HX3
    isplitl [HX4]; · iexact HX4
    isplitl [HY00]; · iexact HY00
    isplitl [HY01]; · iexact HY01
    isplitl [HY02]; · iexact HY02
    isplitl [HY03]; · iexact HY03
    isplitl [HY04]; · iexact HY04
    isplitl [HY05]; · iexact HY05
    isplitl [HY06]; · iexact HY06
    isplitl [HY1]; · iexact HY1
    isplitl [HY2]; · iexact HY2
    isplitl [HY3]; · iexact HY3
    isplitl [HY4]; · iexact HY4
    isplitl [HW00]; · iexists _; iexact HW00
    isplitl [HW01]; · iexists _; iexact HW01
    isplitl [HW02]; · iexists _; iexact HW02
    isplitl [HW03]; · iexists _; iexact HW03
    isplitl [HW04]; · iexists _; iexact HW04
    isplitl [HW05]; · iexists _; iexact HW05
    isplitl [HW06]; · iexists _; iexact HW06
    isplitl [HW10]; · iexists _; iexact HW10
    isplitl [HW11]; · iexists _; iexact HW11
    isplitl [HW12]; · iexists _; iexact HW12
    isplitl [HW13]; · iexists _; iexact HW13
    isplitl [HW14]; · iexists _; iexact HW14
    isplitl [HW15]; · iexists _; iexact HW15
    isplitl [HW16]; · iexists _; iexact HW16
    isplitl [HW20]; · iexists _; iexact HW20
    isplitl [HW21]; · iexists _; iexact HW21
    isplitl [HW22]; · iexists _; iexact HW22
    isplitl [HW23]; · iexists _; iexact HW23
    isplitl [HW24]; · iexists _; iexact HW24
    isplitl [HW25]; · iexists _; iexact HW25
    isplitl [HW26]; · iexists _; iexact HW26
    isplitl [HZ1]; · iexists _; iexact HZ1
    isplitl [HZ2]; · iexists _; iexact HZ2
    isplitl [HZ3]; · iexists _; iexact HZ3
    isplitl [HZ4]; · iexists _; iexact HZ4
    isplitl [HZ5]; · iexists _; iexact HZ5
    isplitl [HC0w]; · iexists _; iexact HC0w
    isplitl [HC1]; · iexists _; iexact HC1
    isplitl [HZ7]; · iexists _; iexact HZ7
    isplitl [HZ8]; · iexists _; iexact HZ8
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      iexact Hq35
    iexists _; iexact HO

end Cert.KernelIdeal.Hand

end
-- ==== Proof.KernelIdeal.Launched.lean ====
module

public import proofs.«01_k».proof.Proof.KernelIdeal.Run
public import proofs.«01_k».proof.Proof.Gen.KernelIdeal.Launch
public import proofs.«01_k».proof.Proof.Gen.KernelIdeal.Frame
public import Idealize.ShloMosaic.Lib.Pipeline.KitQuiescent

/-!
The whole program, from launch to return.

`run_main`: from any memory whose semaphores are at zero, the program terminates without fault; the argument arrays end as
they began, every semaphore ends at zero, and the five results hold what the body's run (`kernelRun`) names, for some contents
that the scratch buffers had at the start (`Results`). `frame` is the part of it that speaks of the arguments.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The one host operation and then the kernel's region. -/
theorem main_region (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The kernel's own semaphores. -/
abbrev osem0 : Fin 36 → SemLoc sig := fun j => SemLoc.dma ⟨j.val, j.isLt⟩
theorem ownSemFacts0 : Pipeline.OwnSemFacts (cfgs 0).spec osem0 := by decide
theorem ownSems00_eq (c : Dev nD) :
    (Pipeline.ownSems0 (Ix := Unit) (Name := ℕ) (U := Pipeline.UD sig nD τ) (Lvl := ℕ) (Val := Elt F) (τ := τ) osem0 c : sProp 𝕄) = semsAt0 c := by
  rw [Pipeline.ownSems0_eq_of_list c osem0 (List.finRange 36) (by decide) (by decide)]; rfl

/-! ## What the results hold -/

/-- The pieces of column block `j` of the output. -/
def Vals.o (v : Vals F) : Fin 7 → List (View.Piece (Elt F) S128x3584 .bf16)
  | 0 => v.o0 | 1 => v.o1 | 2 => v.o2 | 3 => v.o3 | 4 => v.o4 | 5 => v.o5 | 6 => v.o6

/-- The values of the run of core `c` on the operands as the region finds them, at scratch contents `z0 … z8`. -/
abbrev valsAt (c : Dev nD)
    (z0 : BufOf (F := F) c scM0) (z1 : BufOf (F := F) c scM1) (z2 : BufOf (F := F) c scM2) (z3 : BufOf (F := F) c scM3) (z4 : BufOf (F := F) c scM4)
    (z5 : BufOf (F := F) c scM5) (z6 : BufOf (F := F) c scM6) (z7 : BufOf (F := F) c scM7) (z8 : BufOf (F := F) c scM8) : Vals F :=
  (kernelRun c (V m c main_v0) (V m c main_arg1) (V m c main_arg2) (V m c main_arg3) (V m c main_arg4) z0 z1 z2 z3 z4 z5 z6 z7 z8).1

/-- The five result arrays hold the values of the run: each column block of the output its pieces, and the other four
    results their values. -/
def Results (c : Dev nD) (g0 : BufOf (F := F) c hbM5) (g1 : BufOf (F := F) c hbM6) (g2 : BufOf (F := F) c hbM7) (g3 : BufOf (F := F) c hbM8)
    (g4 : BufOf (F := F) c hbM9) : Prop :=
  ∃ z0 z1 z2 z3 z4 z5 z6 z7 z8, ∃ y0 : BufOf (F := F) c hbM5,
    (∀ j, ∀ i ∈ hbM5.view.setOn (oRect j).set, g0 i = hbM5.view.writes (Elt F) y0 ((valsAt m c z0 z1 z2 z3 z4 z5 z6 z7 z8).o j) i)
    ∧ g1 = (valsAt m c z0 z1 z2 z3 z4 z5 z6 z7 z8).c1
    ∧ g2 = (valsAt m c z0 z1 z2 z3 z4 z5 z6 z7 z8).s1
    ∧ g3 = (valsAt m c z0 z1 z2 z3 z4 z5 z6 z7 z8).c2
    ∧ g4 = (valsAt m c z0 z1 z2 z3 z4 z5 z6 z7 z8).s2

/-! ## The invariant before and after the body -/

/-- The operands, at what the region finds in them. -/
abbrev operands (c : Dev nD) : sProp 𝕄 :=
  iprop(pt c hbM0 (V m c main_v0) ∗ pt c hbM1 (V m c main_arg1) ∗ pt c hbM2 (V m c main_arg2) ∗ pt c hbM3 (V m c main_arg3) ∗ pt c hbM4 (V m c main_arg4))
/-- The nine scratch buffers, at anything. -/
abbrev scratch (c : Dev nD) : sProp 𝕄 :=
  iprop((∃ f, pt (F := F) c scM0 f) ∗ (∃ f, pt (F := F) c scM1 f) ∗ (∃ f, pt (F := F) c scM2 f) ∗ (∃ f, pt (F := F) c scM3 f) ∗ (∃ f, pt (F := F) c scM4 f)
    ∗ (∃ f, pt (F := F) c scM5 f) ∗ (∃ f, pt (F := F) c scM6 f) ∗ (∃ f, pt (F := F) c scM7 f) ∗ (∃ f, pt (F := F) c scM8 f))
/-- The result arrays at anything. -/
abbrev resultsAny (c : Dev nD) : sProp 𝕄 :=
  iprop((∃ f, pt (F := F) c hbM5 f) ∗ (∃ f, pt (F := F) c hbM6 f) ∗ (∃ f, pt (F := F) c hbM7 f) ∗ (∃ f, pt (F := F) c hbM8 f) ∗ (∃ f, pt (F := F) c hbM9 f))
/-- The result arrays at the values of the run. -/
def resultsDone (c : Dev nD) : sProp 𝕄 :=
  iprop(∃ g0 g1 g2 g3 g4, ⌜Results m c g0 g1 g2 g3 g4⌝ ∗ pt c hbM5 g0 ∗ pt c hbM6 g1 ∗ pt c hbM7 g2 ∗ pt c hbM8 g3 ∗ pt c hbM9 g4)
/-- Before the body. -/
def before (c : Dev nD) : sProp 𝕄 := iprop(operands m c ∗ resultsAny c ∗ semsAt0 c ∗ scratch c)
/-- After the body. -/
def after (c : Dev nD) : sProp 𝕄 := iprop(operands m c ∗ resultsDone m c ∗ semsAt0 c ∗ scratch c)

/-- The data of the one region: no array is staged, nothing is owed. -/
def dats (_ : Fin 1) (c : Dev nD) : Dat τ (Elt F) Unit ℕ (Pipeline.UD sig nD τ) ℕ cfg0 c where
  A w := w.elim0
  after w := w.elim0
  Φ t := if t.val = 0 then before m c else after m c
  q _ := fullShare
  owed _ := 0

/-- The body takes `before` to `after`. -/
theorem body_run (c : Dev nD) (W : Waits sig Unit) :
    iprop(before m c ∗ owes (c : Thread nD τ) 0 W)
      ⊢ wp frame (wpE (defs₀ (F := F)) Variants.none c none) Set.univ (bodyAt0 t0_0) (fun _ => iprop(after m c ∗ ∃ W', owes (c : Thread nD τ) 0 W')) := by
  unfold before after bodyAt0
  iintro ⟨⟨⟨HX0, HX1, HX2, HX3, HX4⟩, ⟨⟨%y0, HY0⟩, ⟨%y1, HY1⟩, ⟨%y2, HY2⟩, ⟨%y3, HY3⟩, ⟨%y4, HY4⟩⟩, Hq, ⟨⟨%z0, HZ0⟩, ⟨%z1, HZ1⟩, ⟨%z2, HZ2⟩, ⟨%z3, HZ3⟩, ⟨%z4, HZ4⟩, ⟨%z5, HZ5⟩, ⟨%z6, HZ6⟩, ⟨%z7, HZ7⟩, ⟨%z8, HZ8⟩⟩⟩, HO⟩
  ihave HY0' := (out_split c y0) $$ HY0
  ihave HZ0' := (weights_split c z0) $$ HZ0
  ihave HZ6' := (codes_split c z6) $$ HZ6
  icases HY0' with ⟨HY00, HY01, HY02, HY03, HY04, HY05, HY06⟩
  icases HZ0' with ⟨HW00, HW01, HW02, HW03, HW04, HW05, HW06, HW10, HW11, HW12, HW13, HW14, HW15, HW16, HW20, HW21, HW22, HW23, HW24, HW25, HW26⟩
  icases HZ6' with ⟨HC0, HC1⟩
  iapply ((kernelRun c (V m c main_v0) (V m c main_arg1) (V m c main_arg2) (V m c main_arg3) (V m c main_arg4) z0 z1 z2 z3 z4 z5 z6 z7 z8).2 y0 y1 y2 y3 y4 W _)
  isplitl [HX0]; · iexact HX0
  isplitl [HX1]; · iexact HX1
  isplitl [HX2]; · iexact HX2
  isplitl [HX3]; · iexact HX3
  isplitl [HX4]; · iexact HX4
  isplitl [HY00]; · iexact HY00
  isplitl [HY01]; · iexact HY01
  isplitl [HY02]; · iexact HY02
  isplitl [HY03]; · iexact HY03
  isplitl [HY04]; · iexact HY04
  isplitl [HY05]; · iexact HY05
  isplitl [HY06]; · iexact HY06
  isplitl [HY1]; · iexact HY1
  isplitl [HY2]; · iexact HY2
  isplitl [HY3]; · iexact HY3
  isplitl [HY4]; · iexact HY4
  isplitl [HW00]; · iexact HW00
  isplitl [HW01]; · iexact HW01
  isplitl [HW02]; · iexact HW02
  isplitl [HW03]; · iexact HW03
  isplitl [HW04]; · iexact HW04
  isplitl [HW05]; · iexact HW05
  isplitl [HW06]; · iexact HW06
  isplitl [HW10]; · iexact HW10
  isplitl [HW11]; · iexact HW11
  isplitl [HW12]; · iexact HW12
  isplitl [HW13]; · iexact HW13
  isplitl [HW14]; · iexact HW14
  isplitl [HW15]; · iexact HW15
  isplitl [HW16]; · iexact HW16
  isplitl [HW20]; · iexact HW20
  isplitl [HW21]; · iexact HW21
  isplitl [HW22]; · iexact HW22
  isplitl [HW23]; · iexact HW23
  isplitl [HW24]; · iexact HW24
  isplitl [HW25]; · iexact HW25
  isplitl [HW26]; · iexact HW26
  isplitl [HZ1]; · iexact HZ1
  isplitl [HZ2]; · iexact HZ2
  isplitl [HZ3]; · iexact HZ3
  isplitl [HZ4]; · iexact HZ4
  isplitl [HZ5]; · iexact HZ5
  isplitl [HC0]; · iexact HC0
  isplitl [HC1]; · iexact HC1
  isplitl [HZ7]; · iexact HZ7
  isplitl [HZ8]; · iexact HZ8
  isplitl [Hq]; · iexact Hq
  isplitl [HO]; · iexact HO
  iintro ⟨HX0, HX1, HX2, HX3, HX4, HY00, HY01, HY02, HY03, HY04, HY05, HY06, HY1, HY2, HY3, HY4, HW00, HW01, HW02, HW03, HW04, HW05, HW06, HW10, HW11, HW12, HW13, HW14, HW15, HW16, HW20, HW21, HW22, HW23, HW24, HW25, HW26, HZ1, HZ2, HZ3, HZ4, HZ5, HC0, HC1, HZ7, HZ8, Hq, HO⟩
  ihave HZ0 := (weights_join c) $$ [HW00 HW01 HW02 HW03 HW04 HW05 HW06 HW10 HW11 HW12 HW13 HW14 HW15 HW16 HW20 HW21 HW22 HW23 HW24 HW25 HW26]
  · isplitl [HW00]; · iexact HW00
    isplitl [HW01]; · iexact HW01
    isplitl [HW02]; · iexact HW02
    isplitl [HW03]; · iexact HW03
    isplitl [HW04]; · iexact HW04
    isplitl [HW05]; · iexact HW05
    isplitl [HW06]; · iexact HW06
    isplitl [HW10]; · iexact HW10
    isplitl [HW11]; · iexact HW11
    isplitl [HW12]; · iexact HW12
    isplitl [HW13]; · iexact HW13
    isplitl [HW14]; · iexact HW14
    isplitl [HW15]; · iexact HW15
    isplitl [HW16]; · iexact HW16
    isplitl [HW20]; · iexact HW20
    isplitl [HW21]; · iexact HW21
    isplitl [HW22]; · iexact HW22
    isplitl [HW23]; · iexact HW23
    isplitl [HW24]; · iexact HW24
    isplitl [HW25]; · iexact HW25
    iexact HW26
  ihave HZ6 := (codes_join c) $$ [HC0 HC1]
  · isplitl [HC0]; · iexact HC0
    iexact HC1
  ihave HY0 := (out_join c (fun j => hbM5.view.writes (Elt F) y0 ((valsAt m c z0 z1 z2 z3 z4 z5 z6 z7 z8).o j))) $$ [HY00 HY01 HY02 HY03 HY04 HY05 HY06]
  · isplitl [HY00]; · iexact HY00
    isplitl [HY01]; · iexact HY01
    isplitl [HY02]; · iexact HY02
    isplitl [HY03]; · iexact HY03
    isplitl [HY04]; · iexact HY04
    isplitl [HY05]; · iexact HY05
    iexact HY06
  icases HY0 with ⟨%g0, %hg0, HY0⟩
  isplitr [HO]
  · isplitl [HX0 HX1 HX2 HX3 HX4]
    · isplitl [HX0]; · iexact HX0
      isplitl [HX1]; · iexact HX1
      isplitl [HX2]; · iexact HX2
      isplitl [HX3]; · iexact HX3
      iexact HX4
    isplitl [HY0 HY1 HY2 HY3 HY4]
    · unfold resultsDone
      iexists g0, _, _, _, _
      isplitr
      swap
      · isplitl [HY0]; · iexact HY0
        isplitl [HY1]; · iexact HY1
        isplitl [HY2]; · iexact HY2
        isplitl [HY3]; · iexact HY3
        iexact HY4
      · ipureintro
        exact ⟨z0, z1, z2, z3, z4, z5, z6, z7, z8, y0, hg0, View.write_whole_univ _ _ _, View.write_whole_univ _ _ _,
          View.write_whole_univ _ _ _, View.write_whole_univ _ _ _⟩
    isplitl [Hq]; · iexact Hq
    isplitl [HZ0]; · iexact HZ0
    isplitl [HZ1]; · iexact HZ1
    isplitl [HZ2]; · iexact HZ2
    isplitl [HZ3]; · iexact HZ3
    isplitl [HZ4]; · iexact HZ4
    isplitl [HZ5]; · iexact HZ5
    isplitl [HZ6]; · iexact HZ6
    isplitl [HZ7]; · iexact HZ7
    iexact HZ8
  · iexact HO

/-- The body as the region calls it. -/
def bodyPre (c : Dev nD) (t : Fin cfg0.N) : sProp 𝕄 :=
  iprop((dats m 0 c).Φ t.castSucc ∗ (dats m 0 c).owesAt () t.castSucc ∗ emp)
def bodyPost (c : Dev nD) (t : Fin cfg0.N) : sProp 𝕄 :=
  iprop((dats m 0 c).Φ t.succ ∗ (dats m 0 c).owesAt () t.succ ∗ emp)

theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost
  rw [show (dats m 0 c).Φ (Fin.castSucc t0_0) = before m c from rfl, show (dats m 0 c).Φ (Fin.succ t0_0) = after m c from rfl]
  unfold Dat.owesAt Pipeline.owesWithin
  rw [show (dats m 0 c).owed (Fin.castSucc t0_0) = 0 from rfl, show (dats m 0 c).owed (Fin.succ t0_0) = 0 from rfl]
  iintro ⟨HB, ⟨%W, -, HW⟩, -⟩
  ihave H := (body_run m c W) $$ [HB HW]
  · isplitl [HB]; · iexact HB
    iexact HW
  iapply (wp_mono _ _ _ (Q := fun _ => iprop(after m c ∗ ∃ W', owes (c : Thread nD τ) 0 W')) fun _ => by
    iintro ⟨HA, %W', HW'⟩
    isplitl [HA]; · iexact HA
    isplitl [HW']
    · iexists W'
      isplitr; · ipureintro; exact fun _ _ => Or.inl trivial
      iexact HW'
    · iempintro)
  iexact H

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  exact triple_restated (sound_body m c t) rfl .rfl fun _ => .rfl

/-! ## The run -/

/-- What core `c`'s arrays hold at the end: the operands as the region found them, the results at the run's values. -/
def Done (c : Dev nD) (s : MemSt nD τ sig (Elt F)) : Prop :=
  (s.mem ((c : Thread nD τ).loc main_arg0) = V m c main_arg0 ∧ s.mem ((c : Thread nD τ).loc main_arg1) = V m c main_arg1
    ∧ s.mem ((c : Thread nD τ).loc main_arg2) = V m c main_arg2 ∧ s.mem ((c : Thread nD τ).loc main_arg3) = V m c main_arg3
    ∧ s.mem ((c : Thread nD τ).loc main_arg4) = V m c main_arg4)
  ∧ Results m c (s.mem ((c : Thread nD τ).loc main_v1_0)) (s.mem ((c : Thread nD τ).loc main_v1_1)) (s.mem ((c : Thread nD τ).loc main_v1_2))
      (s.mem ((c : Thread nD τ).loc main_v1_3)) (s.mem ((c : Thread nD τ).loc main_v1_4))

/-- A whole array that is owned reads as what it is owned at. -/
theorem read_whole {ℓ : Loc nD τ sig} (f : Buf (Elt F) ℓ) (s : Phys nD τ sig (Elt F)) :
    iprop((ℓ ↦{fullShare} f) ∗ SI s) ⊢ (iprop(⌜s.mem.mem ℓ = f⌝ ∗ SI s ∗ (ℓ ↦{fullShare} f)) : sProp 𝕄) := by
  iintro ⟨H, HS⟩
  icombine HS H gives %h
  isplitr
  · ipureintro; exact Buf.eq_of_forall_mem_univ h
  isplitl [HS]; · iexact HS
  iexact H

/-- The first argument, which only the host operation reads. -/
abbrev hostArg (c : Dev nD) : sProp 𝕄 := iprop(((c : Thread nD τ).loc main_arg0) ↦{fullShare} V m c main_arg0)

/-- The arrays at the end say what `Done` says. -/
theorem done_read (c : Dev nD) (s : Phys nD τ sig (Elt F)) :
    iprop((operands m c ∗ resultsDone m c) ∗ hostArg m c ∗ SI s) ⊢ |={Set.univ}=> (iprop(⌜Done m c s.mem⌝ ∗ SI s) : sProp 𝕄) := by
  unfold resultsDone
  iintro ⟨⟨⟨-, H1, H2, H3, H4⟩, ⟨%g0, %g1, %g2, %g3, %g4, %hg, G0, G1, G2, G3, G4⟩⟩, H0, HS⟩
  ihave R := (read_whole _ s) $$ [H0 HS]
  · isplitl [H0]; · iexact H0
    iexact HS
  icases R with ⟨%e0, HS, -⟩
  ihave R := (read_whole _ s) $$ [H1 HS]
  · isplitl [H1]; · iexact H1
    iexact HS
  icases R with ⟨%e1, HS, -⟩
  ihave R := (read_whole _ s) $$ [H2 HS]
  · isplitl [H2]; · iexact H2
    iexact HS
  icases R with ⟨%e2, HS, -⟩
  ihave R := (read_whole _ s) $$ [H3 HS]
  · isplitl [H3]; · iexact H3
    iexact HS
  icases R with ⟨%e3, HS, -⟩
  ihave R := (read_whole _ s) $$ [H4 HS]
  · isplitl [H4]; · iexact H4
    iexact HS
  icases R with ⟨%e4, HS, -⟩
  ihave R := (read_whole _ s) $$ [G0 HS]
  · isplitl [G0]; · iexact G0
    iexact HS
  icases R with ⟨%d0, HS, -⟩
  ihave R := (read_whole _ s) $$ [G1 HS]
  · isplitl [G1]; · iexact G1
    iexact HS
  icases R with ⟨%d1, HS, -⟩
  ihave R := (read_whole _ s) $$ [G2 HS]
  · isplitl [G2]; · iexact G2
    iexact HS
  icases R with ⟨%d2, HS, -⟩
  ihave R := (read_whole _ s) $$ [G3 HS]
  · isplitl [G3]; · iexact G3
    iexact HS
  icases R with ⟨%d3, HS, -⟩
  ihave R := (read_whole _ s) $$ [G4 HS]
  · isplitl [G4]; · iexact G4
    iexact HS
  icases R with ⟨%d4, HS, -⟩
  imodintro
  isplitr
  · ipureintro
    exact ⟨⟨e0, e1, e2, e3, e4⟩, by rw [d0, d1, d2, d3, d4]; exact hg⟩
  iexact HS

set_option backward.isDefEq.respectTransparency.types false in
set_option maxHeartbeats 800000 in
/-- The program runs to completion without fault; its arguments end as they began, its semaphores at zero, and its results
    at the values of the body's run. -/
theorem run_main : θ_run defs (onTc (τ := τ) (main (F := F))) ⟨m, fun _ => 0, ρ⟩ (fun r => (∀ c : Dev nD, Done m c r.2) ∧ r.2.sem = fun _ => 0) :=
  Pipeline.θ_run_region_kit_quiescent cfgs (dats m) () (0 : Fin 1) launch0 (osem := osem0) ownSemFacts0 embL defs₀ Variants.none m ρ main
    (hbody := fun c => (body_obligation m c).loose) (hshare := fun c => (dats m 0 c).share_full fun _ => rfl) (howed := fun _ _ => rfl)
    (G := fun _ => iprop(emp)) (u₀ := (initOf (Pipeline.cells cfgs cellOf_inj) (Pipeline.launchToks cfgs cellOf_inj), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := main_region m Variants.none) (hA := fun _ w => w.elim0)
    (X := fun c => iprop(operands m c ∗ resultsAny c ∗ semsAt0 c))
    (Y := fun c => iprop(operands m c ∗ resultsDone m c))
    (Z := fun c => hostArg m c)
    (hX := fun c => by
      rw [unscopedRest0_eq, ownSems00_eq]
      iintro ⟨⟨HA0, HA1, HA2, HA3, HA4, HV0, HR0, HR1, HR2, HR3, HR4⟩, Hq, -, -, -⟩
      imodintro
      isplitr [HA0]
      · isplitl [HV0 HA1 HA2 HA3 HA4]
        · isplitl [HV0]; · iexact HV0
          isplitl [HA1]; · iexact HA1
          isplitl [HA2]; · iexact HA2
          isplitl [HA3]; · iexact HA3
          iexact HA4
        isplitr [Hq]
        · isplitl [HR0]; · iexists _; iexact HR0
          isplitl [HR1]; · iexists _; iexact HR1
          isplitl [HR2]; · iexists _; iexact HR2
          isplitl [HR3]; · iexists _; iexact HR3
          iexists _; iexact HR4
        iexact Hq
      iexact HA0)
    (hin := fun c => by
      rw [scopedRest0_eq, show (dats m 0 c).Φ 0 = before m c from rfl]
      unfold before
      iintro ⟨⟨HO, HR, Hq⟩, HS⟩
      isplitl [HO]; · iexact HO
      isplitl [HR]; · iexact HR
      isplitl [Hq]; · iexact Hq
      iexact HS)
    (hout := fun c => by
      rw [scopedRest0_eq, ownSems00_eq, show (dats m 0 c).Φ (Fin.last _) = after m c from rfl]
      unfold after
      iintro ⟨HO, HR, Hq, HS⟩
      isplitl [HO HR]
      · isplitl [HO]; · iexact HO
        iexact HR
      isplitl [Hq]; · iexact Hq
      iexact HS)
    (QY := Done m) (hY := done_read m)
    (hQ := fun s h hz => ⟨fun c => (h c).2, hz⟩)

/-- The arguments end as they began and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1.1.trans (V_main_arg0 m c), (h.1 c).1.2.1.trans (V_main_arg1 m c),
    (h.1 c).1.2.2.1.trans (V_main_arg2 m c), (h.1 c).1.2.2.2.1.trans (V_main_arg3 m c),
    (h.1 c).1.2.2.2.2.trans (V_main_arg4 m c)⟩, h.2⟩) (run_main m ρ)

end Cert.KernelIdeal.Hand

end
-- ==== Proof.KernelFrame.lean ====
module
public import proofs.«01_k».proof.Proof.KernelIdeal.Launched
public import proofs.«01_k».proof.Proof.Gen.Kernel.Skeleton
/-!
The kernel as it is compiled runs to completion without fault, leaves its arguments alone, and ends with every semaphore at zero.
-/

@[expose] public section
noncomputable section
namespace Cert.Kernel.Hand
open Cert.Kernel
open Idealize.ShloMosaic Idealize.ShloMosaic.TcCoe Idealize.SL.Sem
variable {F : FTy → Type} [FloatOps F]
/-- The kernel as compiled and the kernel read at the ideal instance are one text, generic in the reading of floats: what is
    proved of the one holds of the other. The arguments end as they began and every semaphore ends at zero. -/
theorem frame (m : (ℓ : Loc nD τ Cert.Kernel.sig) → Buf (Elt F) ℓ) (g : Dev nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) :=
  Cert.KernelIdeal.Hand.frame (F := F) m g
end Cert.Kernel.Hand

end
-- ==== Proof.KernelIdeal.Blocks.lean ====
module

public import proofs.«01_k».proof.Proof.Gen.KernelIdeal.Skeleton
public import Idealize.ShloMosaic.Lib.Pointwise

/-!
What one block of the kernel computes, as a function of the vectors it loads.

Each definition below is one of the few computations which the body of the kernel repeats for every layer and for every slab of
512 columns.
-/

@[expose] public section

noncomputable section

namespace Cert.KernelIdeal.Hand

open Cert.KernelIdeal Cert.KernelIdeal.Gen
open Idealize.ShloMosaic Idealize.ShloMosaic.TcCoe Idealize.SL.Sem

variable {F : FTy → Type} [FloatOps F]

/-- `y = acc * s * w_scale + b` of one slab: the codes `c` times the slab `w` of the weights, scaled by row and by column, plus
    the bias. -/
def affine (sw : FVec F S128x512 .f32) (c : Vec F S128x3584 .fp8e4m3) (w : Vec F S1x1x3584x512 .fp8e4m3)
    (ws b : Vec F S1x512 .f32) : FVec F S128x512 .f32 :=
  addf (mulf (mulf (matmul dot_S128x3584_S3584x512_S128x512_1_0_0_1_n_n none c
      (shapeCast S3584x512 w shapeCasts_S1x1x3584x512_S3584x512) (constant S128x512 .f32 0x00000000#32)) sw)
    (broadcastTo S128x512 ws broadcasts_S1x512_S128x512)) (broadcastTo S128x512 b broadcasts_S1x512_S128x512)

/-- The input's slab as numbers: the codes times the scales of their rows. -/
def widen (sx : FVec F S128x512 .f32) (x : Vec F S128x512 .fp8e4m3) : FVec F S128x512 .f32 :=
  mulf (extf .f32 x bitsLt_fp8e4m3_f32) sx

/-- One slab of a cross layer: `x0 * y + prev`. -/
def cross (sx sw : FVec F S128x512 .f32) (c : Vec F S128x3584 .fp8e4m3) (w : Vec F S1x1x3584x512 .fp8e4m3)
    (ws b : Vec F S1x512 .f32) (x : Vec F S128x512 .fp8e4m3) (prev : FVec F S128x512 .f32) : FVec F S128x512 .f32 :=
  addf (mulf (widen sx x) (affine sw c w ws b)) prev

/-- The slab of the first layer. -/
def crossFirst (sx : FVec F S128x512 .f32) (c : Vec F S128x3584 .fp8e4m3) (w : Vec F S1x1x3584x512 .fp8e4m3)
    (ws b : Vec F S1x512 .f32) (x : Vec F S128x512 .fp8e4m3) : FVec F S128x512 .f32 :=
  cross sx sx c w ws b x (widen sx x)

/-- The slab of a later layer, whose codes are a slice of the codes of both layer boundaries. -/
def crossNext (sx sw : FVec F S128x512 .f32) (c : Vec F S1x128x3584 .fp8e4m3) (w : Vec F S1x1x3584x512 .fp8e4m3)
    (ws b : Vec F S1x512 .f32) (x : Vec F S128x512 .fp8e4m3) (prev : FVec F S128x512 .f32) : FVec F S128x512 .f32 :=
  cross sx sw (shapeCast S128x3584 c shapeCasts_S1x128x3584_S128x3584) w ws b x prev

/-- A slab as it is stored into the state. -/
def stored (v : FVec F S128x512 .f32) : FVec F S128x512 .f32 := shapeCast S128x512 v shapeCasts_S128x512_S128x512

/-- A slab as it is stored into the output. -/
def storedOut (v : FVec F S128x512 .f32) : FVec F S128x512 .bf16 :=
  shapeCast S128x512 (truncf .bf16 v bitsLt_bf16_f32) shapeCasts_S128x512_S128x512

/-- The running maximum of the absolute values, taken over the four groups of 128 columns of a slab. -/
def amaxStep (m : FVec F S128x128 .f32) (v : FVec F S128x512 .f32) : FVec F S128x128 .f32 :=
  maximumf (maximumf (maximumf (maximumf m
    (absf (extractStridedSlice S128x128 ![0, 0] v slices_S128x512_o0_0_S128x128)))
    (absf (extractStridedSlice S128x128 ![0, 128] v slices_S128x512_o0_128_S128x128)))
    (absf (extractStridedSlice S128x128 ![0, 256] v slices_S128x512_o0_256_S128x128)))
    (absf (extractStridedSlice S128x128 ![0, 384] v slices_S128x512_o0_384_S128x128))

/-- The running maximum before the first slab. -/
def amaxZero : FVec F S128x128 .f32 := broadcast S128x128 (Scalar.ofBits .f32 0x00000000#32)

/-- The largest entry of each row, times 1/448. -/
def peak (m : FVec F S128x128 .f32) : FVec F S128x128 .f32 :=
  mulf (broadcastTo S128x128 (shapeCast S128x1 (shapeCast S128x1
      (multiReduction .maximumf [1] S128 m 0xFF800000#32 reduces_S128x128_S128 (.inl rfl) rfl)
      shapeCasts_S128_S128x1) shapeCasts_S128x1_S128x1) broadcasts_S128x1_S128x128)
    (broadcast S128x128 (Scalar.ofBits .f32 0x3B124925#32))

/-- One bit of the exponent field: `bit` is set when `x` is at least the number whose field is `f + bit`. -/
def fieldStep (x : FVec F S128x128 .f32) (f : IVec S128x128 32) (bit : BitVec 32) : IVec S128x128 32 :=
  select (cmpf .olt x (bitcastToFloat .f32 (shli (addi f (broadcast S128x128 bit)) (broadcast S128x128 23#32)))) f
    (addi f (broadcast S128x128 bit))

/-- The exponent field, bit by bit. -/
def fieldSearch (x : FVec F S128x128 .f32) : IVec S128x128 32 :=
  fieldStep x (fieldStep x (fieldStep x (fieldStep x (fieldStep x (fieldStep x (fieldStep x (fieldStep x
    (broadcast S128x128 0#32) 128#32) 64#32) 32#32) 16#32) 8#32) 4#32) 2#32) 1#32

/-- The exponent of the scale, out of the exponent field. -/
def expOf (f : IVec S128x128 32) : IVec S128x128 32 :=
  select (cmpi .eq (minsi f (broadcast S128x128 252#32)) (broadcast S128x128 0#32)) (broadcast S128x128 0#32)
    (subi (minsi f (broadcast S128x128 252#32)) (broadcast S128x128 126#32))

/-- `2 ** e`. -/
def scaleOf (f : IVec S128x128 32) : FVec F S128x128 .f32 :=
  bitcastToFloat .f32 (shli (addi (expOf f) (broadcast S128x128 127#32)) (broadcast S128x128 23#32))

/-- `2 ** -e`. -/
def invOf (f : IVec S128x128 32) : FVec F S128x128 .f32 :=
  bitcastToFloat .f32 (shli (subi (broadcast S128x128 127#32) (expOf f)) (broadcast S128x128 23#32))

/-- A vector of 128 lanes, repeated over the 512 columns of a slab. -/
def tiled (v : FVec F S128x128 .f32) : FVec F S128x512 .f32 :=
  concatenate S128x512 1 [⟨S128x128, v⟩, ⟨S128x128, v⟩, ⟨S128x128, v⟩, ⟨S128x128, v⟩]
    concatenates_S128x128_S128x128_S128x128_S128x128_S128x512_d1

/-- The scales of the rows of the input, over a slab. -/
def inputScale (xs : Vec F S1x128 .f32) : FVec F S128x512 .f32 :=
  tiled (transpose S128x128 [1, 0] (broadcastTo S128x128 (shapeCast S1x128 xs shapeCasts_S1x128_S1x128)
    broadcasts_S1x128_S128x128) transposes_S128x128_p1_0_S128x128)

/-- The scales of the rows as one row. -/
def scaleRow (f : IVec S128x128 32) : FVec F S1x128 .f32 :=
  shapeCast S1x128 (extractStridedSlice S1x128 ![0, 0]
    (transpose S128x128 [1, 0] (scaleOf (F := F) f) transposes_S128x128_p1_0_S128x128) slices_S128x128_o0_0_S1x128)
    shapeCasts_S1x128_S1x128

/-- The codes of one slab. -/
def quant (inv : FVec F S128x512 .f32) (v : FVec F S128x512 .f32) : FVec F S1x128x512 .fp8e4m3 :=
  shapeCast S1x128x512 (truncf .fp8e4m3 (minimumf (broadcast S128x512 (Scalar.ofBits .f32 0x43E00000#32))
    (maximumf (broadcast S128x512 (Scalar.ofBits .f32 0xC3E00000#32)) (mulf v inv))) bitsLt_fp8e4m3_f32)
    shapeCasts_S128x512_S1x128x512

end Cert.KernelIdeal.Hand
-- ==== Proof.KernelIdeal.Loads.lean ====
module

public import proofs.«01_k».proof.Proof.KernelIdeal.Blocks
public import proofs.«01_k».proof.Proof.KernelIdeal.Pieces

/-!
What a load of the kernel reads.

The operands are copied whole into scratch buffers (the weights slab by slab, each into a buffer of its own), and the loads read slabs
of 512 columns out of them. Each theorem says which entry of the operand an entry of the loaded vector is.
-/

@[expose] public section

noncomputable section

namespace Cert.KernelIdeal.Hand

open Cert.KernelIdeal Cert.KernelIdeal.Gen
open Idealize.ShloMosaic Idealize.ShloMosaic.TcCoe Idealize.SL.Sem

variable {c : Dev nD}

/-- The column `k` of the slab of 512 columns that begins at column `o`. -/
def col (o : ℕ) (ho : o + 512 ≤ 3584) (k : Fin 512) : Fin 3584 := ⟨o + k.val, by omega⟩

/-- The entries of the operands. -/
def inX (x0 : BufOf (F := Ideal) c hbM0) (i : Fin 128) (J : Fin 3584) : EReal := View.read (Elt Ideal) hbM0.view x0 (ix2 i J)
def inS (x1 : BufOf (F := Ideal) c hbM1) (i : Fin 128) : EReal := View.read (Elt Ideal) hbM1.view x1 (ix2 0 i)
def inW (x2 : BufOf (F := Ideal) c hbM2) (l : Fin 3) (K J : Fin 3584) : EReal := View.read (Elt Ideal) hbM2.view x2 (ix3 l K J)
def inWs (x3 : BufOf (F := Ideal) c hbM3) (l : Fin 3) (J : Fin 3584) : EReal := View.read (Elt Ideal) hbM3.view x3 (ix2 l J)
def inB (x4 : BufOf (F := Ideal) c hbM4) (l : Fin 3) (J : Fin 3584) : EReal := View.read (Elt Ideal) hbM4.view x4 (ix2 l J)

/-- Where a rectangle of unit strides in a shape of two axes places an index. -/
theorem idx_unit2 {m n a b : ℕ} (o p : ℕ) (inb : ∀ x, (![o, p] : Fin 2 → ℕ) x + (⟨2, ![a, b]⟩ : Shape).size x ≤ (⟨2, ![m, n]⟩ : Shape).size x)
    (i : Fin a) (k : Fin b) (hi : o + i.val < m) (hk : p + k.val < n) :
    (Rect.unit (s := ⟨2, ![m, n]⟩) ![o, p] (⟨2, ![a, b]⟩ : Shape).size inb).toLoadRect.idx (ix2 i k)
      = ix2 (⟨o + i.val, hi⟩ : Fin m) (⟨p + k.val, hk⟩ : Fin n) := by
  funext x
  refine Fin.ext ?_
  match x with
  | 0 => show o + 1 * i.val = o + i.val; omega
  | 1 => show p + 1 * k.val = p + k.val; omega

/-- The same in a shape of three axes. -/
theorem idx_unit3 {l m n d a b : ℕ} (q o p : ℕ)
    (inb : ∀ x, (![q, o, p] : Fin 3 → ℕ) x + (⟨3, ![d, a, b]⟩ : Shape).size x ≤ (⟨3, ![l, m, n]⟩ : Shape).size x)
    (g : Fin d) (i : Fin a) (k : Fin b) (hg : q + g.val < l) (hi : o + i.val < m) (hk : p + k.val < n) :
    (Rect.unit (s := ⟨3, ![l, m, n]⟩) ![q, o, p] (⟨3, ![d, a, b]⟩ : Shape).size inb).toLoadRect.idx (ix3 g i k)
      = ix3 (⟨q + g.val, hg⟩ : Fin l) (⟨o + i.val, hi⟩ : Fin m) (⟨p + k.val, hk⟩ : Fin n) := by
  funext x
  refine Fin.ext ?_
  match x with
  | 0 => show q + 1 * g.val = q + g.val; omega
  | 1 => show o + 1 * i.val = o + i.val; omega
  | 2 => show p + 1 * k.val = p + k.val; omega

/-- The slab of the codes of the input which begins at column `o`. -/
theorem load_x (x0 : BufOf (F := Ideal) c hbM0) (z1 : BufOf (F := Ideal) c scM1) (o : ℕ) (ho : o + 512 ≤ 3584)
    (inb : ∀ a, (![0, o] : Fin 2 → ℕ) a + S128x512.size a ≤ S128x3584.size a) (i : Fin 128) (k : Fin 512) :
    View.readAt (Elt Ideal) scM1.view (Rect.unit (s := S128x3584) ![0, o] S128x512.size inb).toLoadRect
      (View.write (Elt Ideal) scM1.view z1 (ReadAs.same.apply (View.read (Elt Ideal) hbM0.view x0)) Finset.univ) (ix2 i k)
      = inX x0 i (col o ho k) := by
  rw [View.readAt_apply, View.read_write_univ, idx_unit2 0 o inb i k (by omega) (by omega)]
  simp only [Nat.zero_add]
  rfl

/-- All codes of the input. -/
theorem load_x_all (x0 : BufOf (F := Ideal) c hbM0) (z1 : BufOf (F := Ideal) c scM1)
    (inb : ∀ a, (![0, 0] : Fin 2 → ℕ) a + S128x3584.size a ≤ S128x3584.size a) (i : Fin 128) (K : Fin 3584) :
    View.readAt (Elt Ideal) scM1.view (Rect.unit (s := S128x3584) ![0, 0] S128x3584.size inb).toLoadRect
      (View.write (Elt Ideal) scM1.view z1 (ReadAs.same.apply (View.read (Elt Ideal) hbM0.view x0)) Finset.univ) (ix2 i K)
      = inX x0 i K := by
  rw [View.readAt_apply, View.read_write_univ, idx_unit2 0 0 inb i K (by omega) (by omega)]
  simp only [Nat.zero_add]
  rfl

/-- The scales of the input. -/
theorem load_s (x1 : BufOf (F := Ideal) c hbM1) (z2 : BufOf (F := Ideal) c scM2)
    (inb : ∀ a, (![0, 0] : Fin 2 → ℕ) a + S1x128.size a ≤ S1x128.size a) (i : Fin 128) :
    View.readAt (Elt Ideal) scM2.view (Rect.unit (s := S1x128) ![0, 0] S1x128.size inb).toLoadRect
      (View.write (Elt Ideal) scM2.view z2 (ReadAs.same.apply (View.read (Elt Ideal) hbM1.view x1)) Finset.univ) (ix2 0 i)
      = inS x1 i := by
  rw [View.readAt_apply, View.read_write_univ, idx_unit2 0 0 inb 0 i (by decide) (by omega)]
  simp only [Nat.zero_add]
  rfl

/-- A slab of the column scales of layer `l`. -/
theorem load_ws (x3 : BufOf (F := Ideal) c hbM3) (z3 : BufOf (F := Ideal) c scM3) (l o : ℕ) (hl : l < 3) (ho : o + 512 ≤ 3584)
    (inb : ∀ a, (![l, o] : Fin 2 → ℕ) a + S1x512.size a ≤ S3x3584.size a) (k : Fin 512) :
    View.readAt (Elt Ideal) scM3.view (Rect.unit (s := S3x3584) ![l, o] S1x512.size inb).toLoadRect
      (View.write (Elt Ideal) scM3.view z3 (ReadAs.same.apply (View.read (Elt Ideal) hbM3.view x3)) Finset.univ) (ix2 0 k)
      = inWs x3 ⟨l, hl⟩ (col o ho k) := by
  rw [View.readAt_apply, View.read_write_univ, idx_unit2 l o inb 0 k (by simpa using hl) (by omega)]
  rfl

/-- A slab of the bias of layer `l`. -/
theorem load_b (x4 : BufOf (F := Ideal) c hbM4) (z4 : BufOf (F := Ideal) c scM4) (l o : ℕ) (hl : l < 3) (ho : o + 512 ≤ 3584)
    (inb : ∀ a, (![l, o] : Fin 2 → ℕ) a + S1x512.size a ≤ S3x3584.size a) (k : Fin 512) :
    View.readAt (Elt Ideal) scM4.view (Rect.unit (s := S3x3584) ![l, o] S1x512.size inb).toLoadRect
      (View.write (Elt Ideal) scM4.view z4 (ReadAs.same.apply (View.read (Elt Ideal) hbM4.view x4)) Finset.univ) (ix2 0 k)
      = inB x4 ⟨l, hl⟩ (col o ho k) := by
  rw [View.readAt_apply, View.read_write_univ, idx_unit2 l o inb 0 k (by simpa using hl) (by omega)]
  rfl

/-- A vector of shape 1x1x3584x512 without its unit axes. -/
theorem drop_units4 (v : Vec Ideal S1x1x3584x512 .fp8e4m3) (K : Fin 3584) (k : Fin 512) :
    shapeCast S3584x512 v shapeCasts_S1x1x3584x512_S3584x512 (ix2 K k) = v (ix4 0 0 K k) := by
  pointwise []

/-- A vector of shape 1x3584x512 without its unit axis. -/
theorem drop_units3 (v : Vec Ideal S1x3584x512 .fp8e4m3) (h : S1x3584x512.ShapeCasts S3584x512) (K : Fin 3584) (k : Fin 512) :
    shapeCast S3584x512 v h (ix2 K k) = v (ix3 0 K k) := by
  pointwise []

/-- A slab of the weights: what the buffer of the slab `j` of layer `l` holds once the slab has arrived. -/
theorem load_w (x2 : BufOf (F := Ideal) c hbM2) (z0 : BufOf (F := Ideal) c scM0) (l j o : ℕ) (hl : l < 3) (ho : o + 512 ≤ 3584)
    (inb : ∀ a, (![l, j, 0, 0] : Fin 4 → ℕ) a + S1x1x3584x512.size a ≤ S3x7x3584x512.size a)
    (inb' : ∀ a, (![l, 0, o] : Fin 3 → ℕ) a + S1x3584x512.size a ≤ S3x3584x3584.size a)
    (h1 : ∀ a, (Rect.unit (s := S3x7x3584x512) ![l, j, 0, 0] S1x1x3584x512.size inb).stride a = 1)
    (h2 : ∀ a, (Rect.unit (s := S3x3584x3584) ![l, 0, o] S1x3584x512.size inb').stride a = 1)
    (q1 : (Rect.unit (s := S3x7x3584x512) ![l, j, 0, 0] S1x1x3584x512.size inb).shape.Squeezes S3584x512)
    (q2 : (Rect.unit (s := S3x3584x3584) ![l, 0, o] S1x3584x512.size inb').shape.Squeezes S3584x512)
    (K : Fin 3584) (k : Fin 512) :
    View.readAt (Elt Ideal) scM0.view (Rect.unit (s := S3x7x3584x512) ![l, j, 0, 0] S1x1x3584x512.size inb).toLoadRect
      (View.write (Elt Ideal) ((scM0.slice (Rect.unit (s := S3x7x3584x512) ![l, j, 0, 0] S1x1x3584x512.size inb) h1).squeeze S3584x512 q1).view z0
        (ReadAs.same.apply (View.read (Elt Ideal)
          ((hbM2.slice (Rect.unit (s := S3x3584x3584) ![l, 0, o] S1x3584x512.size inb') h2).squeeze S3584x512 q2).view x2))
        Finset.univ) (ix4 0 0 K k)
      = inW x2 ⟨l, hl⟩ K (col o ho k) := by
  refine (drop_units4 _ K k).symm.trans ?_
  rw [← Memref.read_squeeze_slice scM0 _ h1 q1, View.read_write_univ]
  show View.read (Elt Ideal) ((hbM2.slice (Rect.unit (s := S3x3584x3584) ![l, 0, o] S1x3584x512.size inb') h2).squeeze S3584x512 q2).view x2 (ix2 K k) = _
  rw [Memref.read_squeeze_slice hbM2 _ h2 q2 q2.numel_eq]
  refine (drop_units3 _ _ K k).trans ?_
  rw [View.readAt_apply, idx_unit3 l 0 o inb' 0 K k (by simpa using hl) (by omega) (by omega)]
  simp only [Nat.zero_add]
  rfl

end Cert.KernelIdeal.Hand
-- ==== Proof.Math.Scale.lean ====
module

public import Idealize.ShloMosaic.Lib.Pointwise

/-!
The scale of a row, found from the exponent field of a number.

`expo x` is the exponent which the reference takes of `x`: the least `e` with `x < 2 ^ e` (one more than the floor of the logarithm),
at most 126, and 0 when `x` is below the least normal number. The kernel finds the same exponent by comparing `x` with
the powers of two, one bit of the exponent field at a time. `scale_of_field` and `inv_of_field` say that the two agree.
-/

@[expose] public section

noncomputable section

namespace Cert.Math

open Idealize.ShloMosaic

/-- The exponent of `x`: the floor of its logarithm, plus one, at most 126; 0 below the least normal number. -/
def expo (x : EReal) : EReal :=
  if x < Ideal.ofBits .f32 0x00800000#32 then 0
  else min (Ideal.liftRound Int.floor (Ideal.div (Ideal.log x) (Ideal.log (Ideal.ofBits .f32 0x40000000#32))) + 1)
    (Ideal.ofBits .f32 0x42FC0000#32)

/-- The number whose exponent field is `n` and whose other bits are zero. -/
def thr (n : ℕ) : EReal := Ideal.ofBits .f32 (IntOp.shli .vector (BitVec.ofNat 32 n) 23#32)

/-- One step of the search for the exponent field. -/
def fieldStep1 (x : EReal) (f bit : BitVec 32) : BitVec 32 :=
  if x < Ideal.ofBits .f32 (IntOp.shli .vector (IntOp.addi f bit) 23#32) then f else IntOp.addi f bit

/-- The exponent field, found bit by bit. -/
def field1 (x : EReal) : BitVec 32 :=
  fieldStep1 x (fieldStep1 x (fieldStep1 x (fieldStep1 x (fieldStep1 x (fieldStep1 x (fieldStep1 x (fieldStep1 x
    0#32 128#32) 64#32) 32#32) 16#32) 8#32) 4#32) 2#32) 1#32

/-- The exponent out of the exponent field. -/
def exp1 (f : BitVec 32) : BitVec 32 :=
  Scalar.select (IntOp.cmpi .eq (IntOp.minsi f 252#32) 0#32) 0#32 (IntOp.subi (IntOp.minsi f 252#32) 126#32)

/-- `2 ** e`, made of its bits. -/
def scale1 (f : BitVec 32) : EReal := Ideal.ofBits .f32 (IntOp.shli .vector (IntOp.addi (exp1 f) 127#32) 23#32)

/-- `2 ** -e`, made of its bits. -/
def inv1 (f : BitVec 32) : EReal := Ideal.ofBits .f32 (IntOp.shli .vector (IntOp.subi 127#32 (exp1 f)) 23#32)

/-- A field of zero denotes zero. -/
theorem thr_zero : thr 0 = 0 := by
  have h : IntOp.shli .vector (BitVec.ofNat 32 0) 23#32 = 0#32 := by decide
  rw [thr, h]; simp [Ideal.ofBits, Ideal.ieee]

/-- The number whose sign bit and fraction are zero and whose exponent field is neither zero nor full. -/
theorem ieee_pow (b : BitVec 32) (n : ℕ) (ha : (b.extractLsb' 23 8).toNat = n) (hb : (b.extractLsb' 0 23).toNat = 0)
    (hc : (b.extractLsb' 31 1 == 1#1) = false) (h1 : n ≠ 0) (h2 : n ≠ 255) :
    Ideal.ofBits .f32 b = (((2 : ℝ) ^ ((n : ℤ) - 127) : ℝ) : EReal) := by
  have h2' : (2 : ℝ) ≠ 0 := by norm_num
  have h3 : ¬ n = 2 ^ 8 - 1 := h2
  have hk : (1 : ℝ) * ((2 ^ 23 + 0 : ℕ) : ℝ) * (2 : ℝ) ^ ((n : ℤ) - (2 ^ (8 - 1) - 1) - (23 : ℕ)) = 2 ^ ((n : ℤ) - 127) := by
    rw [show ((n : ℤ) - (2 ^ (8 - 1) - 1) - (23 : ℕ) : ℤ) = ((n : ℤ) - 127) - 23 by norm_num, zpow_sub₀ h2' _ 23]
    norm_num
    field_simp
  show Ideal.ieee 8 23 b = _
  unfold Ideal.ieee
  simp only [ha, hb, hc, if_neg h3, if_neg h1, Bool.false_eq_true, if_false]
  exact congrArg _ hk

/-- A field between 1 and 254 denotes the power of two of that exponent. -/
theorem thr_eq (n : ℕ) (h1 : 1 ≤ n) (h2 : n ≤ 254) : thr n = (((2 : ℝ) ^ ((n : ℤ) - 127) : ℝ) : EReal) := by
  have hx : ∀ k : Fin 256, (((IntOp.shli .vector (BitVec.ofNat 32 k) 23#32).extractLsb' 23 8).toNat = k.val)
      ∧ ((IntOp.shli .vector (BitVec.ofNat 32 k) 23#32).extractLsb' 0 23).toNat = 0
      ∧ ((IntOp.shli .vector (BitVec.ofNat 32 k) 23#32).extractLsb' 31 1 == 1#1) = false := by decide
  obtain ⟨ha, hb, hc⟩ := hx ⟨n, by omega⟩
  exact ieee_pow _ n ha hb hc (by omega) (by omega)

/-- The field 255 denotes infinity. -/
theorem thr_top : thr 255 = ⊤ := by
  have hx : (((IntOp.shli .vector (BitVec.ofNat 32 255) 23#32).extractLsb' 23 8).toNat = 255)
      ∧ ((IntOp.shli .vector (BitVec.ofNat 32 255) 23#32).extractLsb' 0 23).toNat = 0
      ∧ ((IntOp.shli .vector (BitVec.ofNat 32 255) 23#32).extractLsb' 31 1 == 1#1) = false := by decide
  obtain ⟨ha, hb, hc⟩ := hx
  rw [thr, Ideal.ofBits, Ideal.ieee]
  simp [ha, hb, hc]

/-- What the search keeps true: the field found so far denotes at most `x`, and adding what is left to try would exceed it. -/
def Found (x : EReal) (r : ℕ) (f : BitVec 32) : Prop :=
  ∃ n : ℕ, f = BitVec.ofNat 32 n ∧ n + r ≤ 256 ∧ thr n ≤ x ∧ (n + r = 256 ∨ x < thr (n + r))

/-- A step halves what is left to try. -/
theorem Found.step {x : EReal} {r : ℕ} {f : BitVec 32} (h : Found x (2 * r) f) (bit : BitVec 32)
    (hb : bit = BitVec.ofNat 32 r) : Found x r (fieldStep1 x f bit) := by
  obtain ⟨n, rfl, hn, hle, hlt⟩ := h
  have ha : IntOp.addi (BitVec.ofNat 32 n) bit = BitVec.ofNat 32 (n + r) := by
    rw [hb, IntOp.addi, BitVec.ofNat_add]
  rw [fieldStep1, ha]
  by_cases hx : x < Ideal.ofBits .f32 (IntOp.shli .vector (BitVec.ofNat 32 (n + r)) 23#32)
  · rw [if_pos hx]
    exact ⟨n, rfl, by omega, hle, Or.inr hx⟩
  · rw [if_neg hx]
    refine ⟨n + r, rfl, by omega, not_lt.1 hx, ?_⟩
    rw [show n + r + r = n + 2 * r by omega]
    exact hlt

/-- The search ends at the exponent field of `x`. -/
theorem field1_found (x : EReal) (hx : 0 ≤ x) : Found x 1 (field1 x) := by
  have h0 : Found x (2 * 128) 0#32 := ⟨0, rfl, by omega, by rw [thr_zero]; exact hx, Or.inl rfl⟩
  have h1 : Found x (2 * 64) _ := h0.step 128#32 rfl
  have h2 : Found x (2 * 32) _ := h1.step 64#32 rfl
  have h3 : Found x (2 * 16) _ := h2.step 32#32 rfl
  have h4 : Found x (2 * 8) _ := h3.step 16#32 rfl
  have h5 : Found x (2 * 4) _ := h4.step 8#32 rfl
  have h6 : Found x (2 * 2) _ := h5.step 4#32 rfl
  have h7 : Found x (2 * 1) _ := h6.step 2#32 rfl
  exact h7.step 1#32 rfl

/-- The exponent which a field gives: 0 for the field 0, otherwise the field less 126, the field being at most 252. -/
def expInt (n : ℕ) : ℤ := if n = 0 then 0 else (min n 252 : ℕ) - 126

/-- The scale of a field is two to its exponent. -/
theorem scale1_eq (n : ℕ) (hn : n ≤ 255) : scale1 (BitVec.ofNat 32 n) = (((2 : ℝ) ^ expInt n : ℝ) : EReal) := by
  have h : ∀ k : Fin 256, IntOp.addi (exp1 (BitVec.ofNat 32 k)) 127#32
      = BitVec.ofNat 32 (if k.val = 0 then 127 else min k.val 252 + 1) := by decide
  have h' := h ⟨n, by omega⟩
  simp only at h'
  rw [scale1, h']
  refine (thr_eq _ (by split <;> omega) (by split <;> omega)).trans ?_
  congr 2
  rw [expInt]
  split <;> simp <;> omega

/-- The reciprocal scale of a field is two to the negated exponent. -/
theorem inv1_eq (n : ℕ) (hn : n ≤ 255) : inv1 (BitVec.ofNat 32 n) = (((2 : ℝ) ^ (-expInt n) : ℝ) : EReal) := by
  have h : ∀ k : Fin 256, IntOp.subi 127#32 (exp1 (BitVec.ofNat 32 k))
      = BitVec.ofNat 32 (if k.val = 0 then 127 else 253 - min k.val 252) := by decide
  have h' := h ⟨n, by omega⟩
  simp only at h'
  rw [inv1, h']
  refine (thr_eq _ (by split <;> omega) (by split <;> omega)).trans ?_
  congr 2
  rw [expInt]
  split <;> simp <;> omega

/-- The least normal number, as a field. -/
theorem tiny_eq : Ideal.ofBits .f32 0x00800000#32 = thr 1 := by
  have h : IntOp.shli .vector (BitVec.ofNat 32 1) 23#32 = 0x00800000#32 := by decide
  rw [thr, h]

theorem two_eq : Ideal.ofBits .f32 0x40000000#32 = ((2 : ℝ) : EReal) := by
  have h : IntOp.shli .vector (BitVec.ofNat 32 128) 23#32 = 0x40000000#32 := by decide
  rw [← h]; refine (thr_eq 128 (by omega) (by omega)).trans ?_
  norm_num

theorem last_eq : Ideal.ofBits .f32 0x42FC0000#32 = ((126 : ℝ) : EReal) := by
  simp [Ideal.ofBits, Ideal.ieee, -EReal.coe_mul]; norm_num

/-- The floor of the logarithm of a number between two powers of two. -/
theorem floor_log (r : ℝ) (k : ℤ) (h1 : (2 : ℝ) ^ k ≤ r) : k ≤ ⌊Real.log r * (1 / Real.log 2)⌋ := by
  have hp : (0 : ℝ) < 2 ^ k := by positivity
  have hl : 0 < Real.log 2 := Real.log_pos (by norm_num)
  rw [Int.le_floor, mul_one_div, le_div_iff₀ hl, ← Real.log_zpow]
  exact Real.log_le_log hp h1

theorem floor_log_lt (r : ℝ) (hr : 0 < r) (k : ℤ) (h1 : r < (2 : ℝ) ^ k) : ⌊Real.log r * (1 / Real.log 2)⌋ < k := by
  have hl : 0 < Real.log 2 := Real.log_pos (by norm_num)
  rw [Int.floor_lt, mul_one_div, div_lt_iff₀ hl, ← Real.log_zpow]
  exact Real.log_lt_log hr h1

/-- The exponent of a positive number. -/
theorem expo_coe (r : ℝ) (hr : 0 < r) (h : ¬ (r : EReal) < thr 1) :
    expo r = ((min (⌊Real.log r * (1 / Real.log 2)⌋ + 1) 126 : ℤ) : ℝ) := by
  have hl : Real.log 2 ≠ 0 := (Real.log_pos (by norm_num)).ne'
  rw [expo, tiny_eq, if_neg h, two_eq, last_eq, Ideal.log_coe, Ideal.log_coe, if_neg (not_le.2 hr), if_neg (by norm_num),
    Ideal.div_coe hl, ← EReal.coe_one, ← EReal.coe_mul, Ideal.liftRound_coe, ← EReal.coe_add,
    ← EReal.coe_strictMono.monotone.map_min]
  push_cast
  rfl

/-- Of a number with the exponent field `n`, the reference's exponent is the kernel's. -/
theorem expo_of_found (x : EReal) (n : ℕ) (hn : n ≤ 255) (hle : thr n ≤ x) (hlt : n + 1 = 256 ∨ x < thr (n + 1)) :
    expo x = ((expInt n : ℝ) : EReal) := by
  rcases Nat.eq_zero_or_pos n with h0 | hpos
  · subst h0
    rcases hlt with h | h
    · omega
    · rw [expo, tiny_eq, if_pos h]; simp [expInt]
  -- the number is at least the least normal number
  have hx1 : thr 1 ≤ x := by
    rcases Nat.lt_or_ge n 255 with h | h
    · refine le_trans ?_ hle
      rw [thr_eq 1 (by omega) (by omega), thr_eq n hpos (by omega), EReal.coe_le_coe_iff]
      exact zpow_le_zpow_right₀ (by norm_num) (by omega)
    · rw [show n = 255 by omega, thr_top] at hle
      exact le_trans le_top hle
  have hn1 : ¬ x < thr 1 := not_lt.2 hx1
  have hx0 : 0 < x := lt_of_lt_of_le (by rw [thr_eq 1 (by omega) (by omega)]; exact EReal.coe_pos.2 (by positivity)) hx1
  have hE : expInt n = (min n 252 : ℕ) - 126 := by rw [expInt, if_neg (by omega)]
  induction x using EReal.rec with
  | bot => exact absurd hx0 (by simp)
  | top =>
    have hn' : n = 255 := by
      rcases hlt with h | h
      · omega
      · exact absurd h (by simp)
    have hl : Real.log 2 ≠ 0 := (Real.log_pos (by norm_num)).ne'
    have hl' : (0 : ℝ) < Real.log 2 := Real.log_pos (by norm_num)
    rw [expo, tiny_eq, if_neg hn1, two_eq, last_eq, Ideal.log_top, Ideal.log_coe, if_neg (by norm_num), Ideal.div_coe hl,
      EReal.top_mul_coe_of_pos (by positivity), Ideal.liftRound_top, EReal.top_add_of_ne_bot (by rw [← EReal.coe_one]; exact EReal.coe_ne_bot 1), min_eq_right le_top,
      hE, hn']
    norm_num
  | coe r =>
    have hr : 0 < r := EReal.coe_pos.1 hx0
    have hn' : n ≤ 254 := by
      by_contra h
      rw [show n = 255 by omega, thr_top] at hle
      exact absurd hle (by simp)
    rw [expo_coe r hr hn1, hE]
    rw [thr_eq n hpos hn', EReal.coe_le_coe_iff] at hle
    have h1 := floor_log r _ hle
    congr 2
    rcases Nat.lt_or_ge n 252 with h | h
    · rcases hlt with h' | h'
      · omega
      · rw [thr_eq (n + 1) (by omega) (by omega), EReal.coe_lt_coe_iff] at h'
        have h2 := floor_log_lt r hr _ h'
        push_cast at h2
        omega
    · omega

/-- The kernel's scale is two to the reference's exponent. -/
theorem scale_of_field (x : EReal) (hx : 0 ≤ x) : scale1 (field1 x) = Ideal.exp2 (expo x) := by
  obtain ⟨n, hf, hn, hle, hlt⟩ := field1_found x hx
  rw [hf, scale1_eq n (by omega), expo_of_found x n (by omega) hle hlt, Ideal.exp2_coe]
  congr 1
  exact (Real.rpow_intCast 2 _).symm

/-- The kernel's reciprocal scale is two to the reference's negated exponent. -/
theorem inv_of_field (x : EReal) (hx : 0 ≤ x) : inv1 (field1 x) = Ideal.exp2 (0 - expo x) := by
  obtain ⟨n, hf, hn, hle, hlt⟩ := field1_found x hx
  rw [hf, inv1_eq n (by omega), expo_of_found x n (by omega) hle hlt, zero_sub, ← EReal.coe_neg, Ideal.exp2_coe]
  congr 1
  rw [← Int.cast_neg]
  exact (Real.rpow_intCast 2 _).symm

end Cert.Math
-- ==== Proof.Math.Cross.lean ====
module

public import proofs.«01_k».proof.Proof.Math.Scale

/-!
The mathematics of the cross layers, entry by entry, over the extended reals.

An array of 128 rows and 3584 columns is a function of a row and a column. `layer` is one cross layer, `rowPeak` the number whose
exponent scales a row, `codes` the row divided by its scale and clipped. `Inputs` names the five operands, and `x1`, `x2`, `x3` are
the states after the three layers.
-/

@[expose] public section

noncomputable section

namespace Cert.Math

open Idealize.ShloMosaic

/-- An array of 128 rows and 3584 columns. -/
abbrev Rows := Fin 128 → Fin 3584 → EReal

/-- The product of the codes with the weights, scaled by row and by column, plus the bias. -/
def dense (C : Rows) (s : Fin 128 → EReal) (W : Fin 3584 → Fin 3584 → EReal) (ws b : Fin 3584 → EReal) : Rows :=
  fun i J => (∑ K, C i K * W K J) * s i * ws J + b J

/-- One cross layer: `x0 * dense + prev`. -/
def layer (X0 C : Rows) (s : Fin 128 → EReal) (W : Fin 3584 → Fin 3584 → EReal) (ws b : Fin 3584 → EReal) (prev : Rows) : Rows :=
  fun i J => X0 i J * dense C s W ws b i J + prev i J

/-- The absolute value. -/
def mag (x : EReal) : EReal := max x (-x)

/-- The largest absolute value of a row. -/
def rowMax (X : Rows) (i : Fin 128) : EReal := Finset.univ.fold max ⊥ fun J => mag (X i J)

/-- The largest absolute value of a row, times 1/448. -/
def rowPeak (X : Rows) (i : Fin 128) : EReal := rowMax X i * Ideal.ofBits .f32 0x3B124925#32

/-- The scale of each row: a power of two. -/
def rowScale (X : Rows) (i : Fin 128) : EReal := Ideal.exp2 (expo (rowPeak X i))

/-- The reciprocal of the scale of each row. -/
def rowInv (X : Rows) (i : Fin 128) : EReal := Ideal.exp2 (0 - expo (rowPeak X i))

/-- The codes of the rows: each entry divided by the scale of its row, clipped to the range of the format. -/
def codes (X : Rows) : Rows := fun i J =>
  min (Ideal.ofBits .f32 0x43E00000#32) (max (Ideal.ofBits .f32 0xC3E00000#32) (X i J * rowInv X i))

/-- The five operands. -/
structure Inputs where
  /-- the codes of the input -/
  X : Rows
  /-- the scales of its rows -/
  s : Fin 128 → EReal
  /-- the codes of the weights of each layer -/
  W : Fin 3 → Fin 3584 → Fin 3584 → EReal
  /-- the scales of their columns -/
  ws : Fin 3 → Fin 3584 → EReal
  /-- the biases -/
  b : Fin 3 → Fin 3584 → EReal

namespace Inputs

/-- The input. -/
def x0 (I : Inputs) : Rows := fun i J => I.X i J * I.s i

/-- The state after the first layer. -/
def x1 (I : Inputs) : Rows := layer I.x0 I.X I.s (I.W 0) (I.ws 0) (I.b 0) I.x0

/-- The state after the second layer. -/
def x2 (I : Inputs) : Rows := layer I.x0 (codes I.x1) (rowScale I.x1) (I.W 1) (I.ws 1) (I.b 1) I.x1

/-- The state after the third layer. -/
def x3 (I : Inputs) : Rows := layer I.x0 (codes I.x2) (rowScale I.x2) (I.W 2) (I.ws 2) (I.b 2) I.x2

end Inputs

/-- An absolute value is not negative. -/
theorem mag_nonneg (x : EReal) : 0 ≤ mag x := by
  rcases le_total 0 x with h | h
  · exact le_max_of_le_left h
  · exact le_max_of_le_right (EReal.neg_nonneg.2 h)

/-- The largest absolute value of a row is the least bound of its absolute values. -/
theorem rowMax_le_iff (X : Rows) (i : Fin 128) (B : EReal) : rowMax X i ≤ B ↔ ∀ J, mag (X i J) ≤ B := by
  rw [rowMax, Finset.fold_max_le]
  simp

/-- The largest absolute value of a row is not negative. -/
theorem rowMax_nonneg (X : Rows) (i : Fin 128) : 0 ≤ rowMax X i :=
  le_trans (mag_nonneg (X i 0)) ((rowMax_le_iff X i _).1 le_rfl 0)

theorem inv448_nonneg : 0 ≤ Ideal.ofBits .f32 0x3B124925#32 := by
  simp [Ideal.ofBits, Ideal.ieee, -EReal.coe_mul]

/-- The number whose exponent scales a row is not negative. -/
theorem rowPeak_nonneg (X : Rows) (i : Fin 128) : 0 ≤ rowPeak X i := mul_nonneg (rowMax_nonneg X i) inv448_nonneg

/-- The running maximum `m` of the first `n` columns: lane `k` holds the largest absolute value of the columns that are `k` modulo 128. -/
def Running (X : Rows) (n : ℕ) (m : Fin 128 → Fin 128 → EReal) : Prop :=
  ∀ i k B, m i k ≤ B ↔ 0 ≤ B ∧ ∀ J : Fin 3584, J.val < n → J.val % 128 = k.val → mag (X i J) ≤ B

/-- Before the first column the running maximum is zero. -/
theorem Running.zero (X : Rows) : Running X 0 fun _ _ => 0 := fun i k B => by simp

/-- A slab of 512 columns, in four groups of 128, continues the running maximum. -/
theorem Running.step {X : Rows} {n : ℕ} {m : Fin 128 → Fin 128 → EReal} (h : Running X n m) (hn : n % 128 = 0) (hn' : n + 512 ≤ 3584)
    {m' : Fin 128 → Fin 128 → EReal}
    (hm : ∀ i k, m' i k = max (max (max (max (m i k) (mag (X i ⟨n + k.val, by omega⟩))) (mag (X i ⟨n + (128 + k.val), by omega⟩)))
      (mag (X i ⟨n + (256 + k.val), by omega⟩))) (mag (X i ⟨n + (384 + k.val), by omega⟩))) : Running X (n + 512) m' := by
  intro i k B
  rw [hm i k, max_le_iff, max_le_iff, max_le_iff, max_le_iff, h i k B]
  constructor
  · rintro ⟨⟨⟨⟨⟨h0, hJ⟩, h1⟩, h2⟩, h3⟩, h4⟩
    refine ⟨h0, fun J hJn hJk => ?_⟩
    by_cases hlt : J.val < n
    · exact hJ J hlt hJk
    · have hk := k.isLt
      have hc : J.val = n + k.val ∨ J.val = n + (128 + k.val) ∨ J.val = n + (256 + k.val) ∨ J.val = n + (384 + k.val) := by omega
      rcases hc with e | e | e | e
      · rw [show J = ⟨n + k.val, by omega⟩ from Fin.ext e]; exact h1
      · rw [show J = ⟨n + (128 + k.val), by omega⟩ from Fin.ext e]; exact h2
      · rw [show J = ⟨n + (256 + k.val), by omega⟩ from Fin.ext e]; exact h3
      · rw [show J = ⟨n + (384 + k.val), by omega⟩ from Fin.ext e]; exact h4
  · rintro ⟨h0, hJ⟩
    have hk := k.isLt
    refine ⟨⟨⟨⟨⟨h0, fun J hJn hJk => hJ J (by omega) hJk⟩, ?_⟩, ?_⟩, ?_⟩, ?_⟩
    all_goals exact hJ _ (by simp only; omega) (by simp only; omega)

/-- The largest lane of the running maximum of all columns is the largest absolute value of the row. -/
theorem Running.rowMax {X : Rows} {m : Fin 128 → Fin 128 → EReal} (h : Running X 3584 m) (i : Fin 128) :
    (Finset.univ.fold max ⊥ fun k => m i k) = rowMax X i := by
  refine eq_of_forall_ge_iff fun B => ?_
  rw [Finset.fold_max_le, rowMax_le_iff]
  simp only [bot_le, Finset.mem_univ, forall_const, true_and]
  constructor
  · intro hB J
    exact ((h i ⟨J.val % 128, by omega⟩ B).1 (hB _)).2 J J.isLt rfl
  · intro hB k
    exact (h i k B).2 ⟨le_trans (mag_nonneg _) (hB 0), fun J _ _ => hB J⟩

end Cert.Math
-- ==== Proof.KernelIdeal.Entries.lean ====
module

public import proofs.«01_k».proof.Proof.KernelIdeal.Loads
public import proofs.«01_k».proof.Proof.Math.Cross

/-!
The entries of what one block of the kernel computes, over the extended reals.

Each theorem takes the entries of the vectors that a block reads and gives the entries of the vector that it makes.
-/

@[expose] public section

noncomputable section

namespace Cert.KernelIdeal.Hand

open Cert.KernelIdeal Cert.KernelIdeal.Gen Cert.Math
open Idealize.ShloMosaic Idealize.ShloMosaic.TcCoe Idealize.SL.Sem

/-- A slab of the first layer holds the first layer's entries. -/
theorem crossFirst_apply {sx : FVec Ideal S128x512 .f32} {c : Vec Ideal S128x3584 .fp8e4m3} {w : Vec Ideal S1x1x3584x512 .fp8e4m3}
    {ws b : Vec Ideal S1x512 .f32} {x : Vec Ideal S128x512 .fp8e4m3} {C : Rows} {s : Fin 128 → EReal}
    {W : Fin 3584 → Fin 3584 → EReal} {Ws B : Fin 3584 → EReal} (o : ℕ) (ho : o + 512 ≤ 3584)
    (hsx : ∀ i k, sx (ix2 i k) = s i) (hc : ∀ i K, c (ix2 i K) = C i K) (hw : ∀ K k, w (ix4 0 0 K k) = W K (col o ho k))
    (hws : ∀ k, ws (ix2 0 k) = Ws (col o ho k)) (hb : ∀ k, b (ix2 0 k) = B (col o ho k))
    (hx : ∀ i k, x (ix2 i k) = C i (col o ho k)) (i : Fin 128) (k : Fin 512) :
    crossFirst sx c w ws b x (ix2 i k)
      = layer (fun i J => C i J * s i) C s W Ws B (fun i J => C i J * s i) i (col o ho k) := by
  pointwise [crossFirst, cross, widen, affine]
  simp only [hsx, hc, hw, hws, hb, hx, layer, dense]

/-- A slab of a later layer holds that layer's entries. -/
theorem crossNext_apply {sx sw : FVec Ideal S128x512 .f32} {c : Vec Ideal S1x128x3584 .fp8e4m3} {w : Vec Ideal S1x1x3584x512 .fp8e4m3}
    {ws b : Vec Ideal S1x512 .f32} {x : Vec Ideal S128x512 .fp8e4m3} {prev : FVec Ideal S128x512 .f32} {X C P : Rows} {s s' : Fin 128 → EReal}
    {W : Fin 3584 → Fin 3584 → EReal} {Ws B : Fin 3584 → EReal} (o : ℕ) (ho : o + 512 ≤ 3584)
    (hsx : ∀ i k, sx (ix2 i k) = s i) (hsw : ∀ i k, sw (ix2 i k) = s' i) (hc : ∀ i K, c (ix3 0 i K) = C i K)
    (hw : ∀ K k, w (ix4 0 0 K k) = W K (col o ho k))
    (hws : ∀ k, ws (ix2 0 k) = Ws (col o ho k)) (hb : ∀ k, b (ix2 0 k) = B (col o ho k))
    (hx : ∀ i k, x (ix2 i k) = X i (col o ho k)) (hp : ∀ i k, prev (ix2 i k) = P i (col o ho k)) (i : Fin 128) (k : Fin 512) :
    crossNext sx sw c w ws b x prev (ix2 i k) = layer (fun i J => X i J * s i) C s' W Ws B P i (col o ho k) := by
  pointwise [crossNext, cross, widen, affine]
  simp only [hsx, hsw, hc, hw, hws, hb, hx, hp, layer, dense]

/-- Storing a slab does not change it. -/
theorem stored_apply (v : FVec Ideal S128x512 .f32) (i : Fin 128) (k : Fin 512) : stored v (ix2 i k) = v (ix2 i k) := by
  pointwise [stored]

/-- Nor does storing it into the output, over the extended reals. -/
theorem storedOut_apply (v : FVec Ideal S128x512 .f32) (i : Fin 128) (k : Fin 512) : storedOut v (ix2 i k) = v (ix2 i k) := by
  pointwise [storedOut]

/-- Before the first slab the running maximum is zero. -/
theorem amaxZero_running (X : Rows) : Running X 0 fun i k => amaxZero (F := Ideal) (ix2 i k) := by
  have h : (fun i k : Fin 128 => amaxZero (F := Ideal) (ix2 i k)) = fun _ _ => 0 := by
    funext i k
    pointwise [amaxZero]
  rw [h]
  exact Running.zero X

/-- A slab continues the running maximum. -/
theorem amaxStep_running {X : Rows} {n : ℕ} {m : FVec Ideal S128x128 .f32} (h : Running X n fun i k => m (ix2 i k)) (hn : n % 128 = 0)
    (hn' : n + 512 ≤ 3584) {v : FVec Ideal S128x512 .f32} (hv : ∀ i k, v (ix2 i k) = X i (col n hn' k)) :
    Running X (n + 512) fun i k => amaxStep m v (ix2 i k) := by
  refine h.step hn hn' fun i k => ?_
  have h0 := hv i ⟨k.val, by omega⟩
  have h1 := hv i ⟨128 + k.val, by omega⟩
  have h2 := hv i ⟨256 + k.val, by omega⟩
  have h3 := hv i ⟨384 + k.val, by omega⟩
  pointwise [amaxStep]
  rw [h0, h1, h2, h3]
  rfl

/-- The running maximum of all columns gives the number whose exponent scales a row, in every lane. -/
theorem peak_apply {X : Rows} {m : FVec Ideal S128x128 .f32} (h : Running X 3584 fun i k => m (ix2 i k)) (i k : Fin 128) :
    peak m (ix2 i k) = rowPeak X i := by
  rw [rowPeak, ← h.rowMax i]
  pointwise [peak]
  simp [Ideal.ofBits, Ideal.ieee]

/-- The search finds the exponent field of every entry. -/
theorem fieldSearch_apply (x : FVec Ideal S128x128 .f32) (i k : Fin 128) : fieldSearch x (ix2 i k) = field1 (x (ix2 i k)) := by
  have hs : ∀ f b, fieldStep x f b (ix2 i k) = fieldStep1 (x (ix2 i k)) (f (ix2 i k)) b := fun f b => by
    pointwise [fieldStep, fieldStep1]
  simp only [fieldSearch, hs, field1]
  rfl

/-- The scale of a row, in every lane. -/
theorem scaleOf_apply {X : Rows} {x : FVec Ideal S128x128 .f32} (h : ∀ i k, x (ix2 i k) = rowPeak X i) (i k : Fin 128) :
    scaleOf (F := Ideal) (fieldSearch x) (ix2 i k) = rowScale X i := by
  have hs : ∀ f : IVec S128x128 32, scaleOf (F := Ideal) f (ix2 i k) = scale1 (f (ix2 i k)) := fun f => by
    pointwise [scaleOf, expOf, scale1, exp1]
  rw [hs, fieldSearch_apply, h, scale_of_field _ (rowPeak_nonneg X i), rowScale]

/-- The reciprocal of the scale of a row, in every lane. -/
theorem invOf_apply {X : Rows} {x : FVec Ideal S128x128 .f32} (h : ∀ i k, x (ix2 i k) = rowPeak X i) (i k : Fin 128) :
    invOf (F := Ideal) (fieldSearch x) (ix2 i k) = rowInv X i := by
  have hs : ∀ f : IVec S128x128 32, invOf (F := Ideal) f (ix2 i k) = inv1 (f (ix2 i k)) := fun f => by
    pointwise [invOf, expOf, inv1, exp1]
  rw [hs, fieldSearch_apply, h, inv_of_field _ (rowPeak_nonneg X i), rowInv]

/-- A vector whose lanes are equal, repeated over the columns of a slab. -/
theorem tiled_apply {v : FVec Ideal S128x128 .f32} {s : Fin 128 → EReal} (h : ∀ i k, v (ix2 i k) = s i) (i : Fin 128) (k : Fin 512) :
    tiled v (ix2 i k) = s i := by
  pointwise [tiled]
  simp only [h]
  split_ifs <;> rfl

/-- The scales of the input, over a slab. -/
theorem inputScale_apply {xs : Vec Ideal S1x128 .f32} {s : Fin 128 → EReal} (h : ∀ i, xs (ix2 0 i) = s i) (i : Fin 128) (k : Fin 512) :
    inputScale xs (ix2 i k) = s i := by
  rw [inputScale]
  refine tiled_apply (fun i k => ?_) i k
  pointwise []
  exact h i

/-- The scales of the rows, as one row. -/
theorem scaleRow_apply {X : Rows} {x : FVec Ideal S128x128 .f32} (h : ∀ i k, x (ix2 i k) = rowPeak X i) (i : Fin 128) :
    scaleRow (F := Ideal) (fieldSearch x) (ix2 0 i) = rowScale X i := by
  rw [← scaleOf_apply h i 0]
  pointwise [scaleRow]

/-- The codes of a slab. -/
theorem quant_apply {X : Rows} {inv v : FVec Ideal S128x512 .f32} (o : ℕ) (ho : o + 512 ≤ 3584) (hi : ∀ i k, inv (ix2 i k) = rowInv X i)
    (hv : ∀ i k, v (ix2 i k) = X i (col o ho k)) (i : Fin 128) (k : Fin 512) :
    quant inv v (ix3 0 i k) = codes X i (col o ho k) := by
  pointwise [quant]
  rw [hi, hv, codes]

end Cert.KernelIdeal.Hand
-- ==== Proof.KernelIdeal.Stores.lean ====
module

public import proofs.«01_k».proof.Proof.KernelIdeal.Loads
public import Idealize.ShloMosaic.Lib.WritesUnit

/-!
What a buffer reads after stores of slabs of 512 columns.

`ReadsCols v L a b G` says: after the stores `L`, the newest first, over any earlier contents, the columns from `a` up to `b` read `G`.
-/

@[expose] public section

noncomputable section

namespace Cert.KernelIdeal.Hand

open Cert.KernelIdeal Cert.KernelIdeal.Gen
open Idealize.ShloMosaic Idealize.ShloMosaic.TcCoe Idealize.SL.Sem

variable {κ : Kind} {sp : Space} {e : EltTy}

/-- After the stores `L`, over any earlier contents, the columns from `a` up to `b` read `G`. -/
def ReadsCols (v : View sig κ sp S128x3584 e) (L : List (View.Piece (Elt Ideal) S128x3584 e)) (a b : ℕ)
    (G : Fin 128 → Fin 3584 → Elt Ideal e) : Prop :=
  ∀ f i J, a ≤ J.val → J.val < b → View.read (Elt Ideal) v (v.writes (Elt Ideal) f L) (ix2 i J) = G i J

/-- No columns. -/
theorem ReadsCols.nil (v : View sig κ sp S128x3584 e) (L : List (View.Piece (Elt Ideal) S128x3584 e)) (a : ℕ)
    (G : Fin 128 → Fin 3584 → Elt Ideal e) : ReadsCols v L a a G := fun _ _ _ h h' => absurd h' (by omega)

/-- A store of the next slab. -/
theorem ReadsCols.next {v : View sig κ sp S128x3584 e} {L : List (View.Piece (Elt Ideal) S128x3584 e)} {a : ℕ}
    {G : Fin 128 → Fin 3584 → Elt Ideal e} (o : ℕ) (hL : ReadsCols v L a o G) (ho : o + 512 ≤ 3584)
    (inb : ∀ x, (![0, o] : Fin 2 → ℕ) x + S128x512.size x ≤ S128x3584.size x)
    (w : S128x512.Idx → Elt Ideal e) (h : ∀ i k, w (ix2 i k) = G i (col o ho k)) :
    ReadsCols v (⟨Rect.unit (s := S128x3584) ![0, o] S128x512.size inb, w⟩ :: L) a (o + 512) G := by
  intro f i J ha hb
  by_cases hJ : J.val < o
  · refine (View.read_writes_cons_unit_of_not_mem v f inb w L (ix2 i J) rfl 1 (Or.inl hJ)).trans (hL f i J ha hJ)
  · have hk : J = col o ho ⟨J.val - o, by omega⟩ := Fin.ext (by show J.val = o + (J.val - o); omega)
    refine (View.read_writes_cons_unit_of_mem v f inb w L (ix2 i J) (ix2 i ⟨J.val - o, by omega⟩) rfl fun x => ?_).trans ?_
    · match x with
      | 0 => show i.val = 0 + i.val; omega
      | 1 => show J.val = o + (J.val - o); omega
    · rw [h, ← hk]

/-- A store beside the columns in question. -/
theorem ReadsCols.beside {v : View sig κ sp S128x3584 e} {L : List (View.Piece (Elt Ideal) S128x3584 e)} {a b : ℕ}
    {G : Fin 128 → Fin 3584 → Elt Ideal e} (hL : ReadsCols v L a b G) (o : ℕ)
    (inb : ∀ x, (![0, o] : Fin 2 → ℕ) x + S128x512.size x ≤ S128x3584.size x)
    (w : S128x512.Idx → Elt Ideal e) (a' : ℕ) (ha : a ≤ a') (hd : o + 512 ≤ a') :
    ReadsCols v (⟨Rect.unit (s := S128x3584) ![0, o] S128x512.size inb, w⟩ :: L) a' b G := fun f i J h h' =>
  (View.read_writes_cons_unit_of_not_mem v f inb w L (ix2 i J) rfl 1 (Or.inr (le_trans hd h))).trans (hL f i J (le_trans ha h) h')

/-- A slab of the columns, read through the slab's rectangle. -/
theorem ReadsCols.read {v : View sig κ sp S128x3584 e} {L : List (View.Piece (Elt Ideal) S128x3584 e)} {a b : ℕ}
    {G : Fin 128 → Fin 3584 → Elt Ideal e} (hL : ReadsCols v L a b G) (o : ℕ) (ho : o + 512 ≤ 3584)
    (inb : ∀ x, (![0, o] : Fin 2 → ℕ) x + S128x512.size x ≤ S128x3584.size x) (ha : a ≤ o) (hb : o + 512 ≤ b)
    (f : v.ty.Contents (Elt Ideal)) (i : Fin 128) (k : Fin 512) :
    View.readAt (Elt Ideal) v (Rect.unit (s := S128x3584) ![0, o] S128x512.size inb).toLoadRect (v.writes (Elt Ideal) f L) (ix2 i k)
      = G i (col o ho k) := by
  rw [View.readAt_apply, idx_unit2 0 o inb i k (by omega) (by omega)]
  simp only [Nat.zero_add]
  exact hL f i (col o ho k) (le_trans ha (Nat.le_add_right _ _)) (by show o + k.val < b; omega)

/-- A load of a slab of the columns. -/
theorem ReadsCols.load {v : View sig κ sp S128x3584 e} {L : List (View.Piece (Elt Ideal) S128x3584 e)} {a b : ℕ}
    {G : Fin 128 → Fin 3584 → Elt Ideal e} (hL : ReadsCols v L a b G) (o : ℕ) (ho : o + 512 ≤ 3584)
    (inb : ∀ x, (![0, o] : Fin 2 → ℕ) x + S128x512.size x ≤ S128x3584.size x) (ha : a ≤ o) (hb : o + 512 ≤ b)
    (i : Fin 128) (k : Fin 512) :
    v.readCov L (Rect.unit (s := S128x3584) ![0, o] S128x512.size inb).toLoadRect (ix2 i k) = G i (col o ho k) :=
  hL.read o ho inb ha hb v.junk i k

/-- The same for the codes of the layer boundary `l`, a slice of the buffer of both boundaries. -/
def ReadsCodes (v : View sig κ sp S2x128x3584 e) (L : List (View.Piece (Elt Ideal) S2x128x3584 e)) (l : Fin 2) (b : ℕ)
    (G : Fin 128 → Fin 3584 → Elt Ideal e) : Prop :=
  ∀ f i J, J.val < b → View.read (Elt Ideal) v (v.writes (Elt Ideal) f L) (ix3 l i J) = G i J

/-- No columns. -/
theorem ReadsCodes.nil (v : View sig κ sp S2x128x3584 e) (L : List (View.Piece (Elt Ideal) S2x128x3584 e)) (l : Fin 2)
    (G : Fin 128 → Fin 3584 → Elt Ideal e) : ReadsCodes v L l 0 G := fun _ _ _ h => absurd h (by omega)

/-- A store of the next slab. -/
theorem ReadsCodes.next {v : View sig κ sp S2x128x3584 e} {L : List (View.Piece (Elt Ideal) S2x128x3584 e)} {l : Fin 2}
    {G : Fin 128 → Fin 3584 → Elt Ideal e} (o : ℕ) (hL : ReadsCodes v L l o G) (ho : o + 512 ≤ 3584) (q : ℕ) (hq : q = l.val)
    (inb : ∀ x, (![q, 0, o] : Fin 3 → ℕ) x + S1x128x512.size x ≤ S2x128x3584.size x)
    (w : S1x128x512.Idx → Elt Ideal e) (h : ∀ i k, w (ix3 0 i k) = G i (col o ho k)) :
    ReadsCodes v (⟨Rect.unit (s := S2x128x3584) ![q, 0, o] S1x128x512.size inb, w⟩ :: L) l (o + 512) G := by
  intro f i J hb
  by_cases hJ : J.val < o
  · refine (View.read_writes_cons_unit_of_not_mem v f inb w L (ix3 l i J) rfl 2 (Or.inl hJ)).trans (hL f i J hJ)
  · have hk : J = col o ho ⟨J.val - o, by omega⟩ := Fin.ext (by show J.val = o + (J.val - o); omega)
    refine (View.read_writes_cons_unit_of_mem v f inb w L (ix3 l i J) (ix3 0 i ⟨J.val - o, by omega⟩) rfl fun x => ?_).trans ?_
    · match x with
      | 0 => show l.val = q + 0; omega
      | 1 => show i.val = 0 + i.val; omega
      | 2 => show J.val = o + (J.val - o); omega
    · rw [h, ← hk]

/-- All codes of a layer boundary, read through their slice. -/
theorem ReadsCodes.read {v : View sig κ sp S2x128x3584 e} {L : List (View.Piece (Elt Ideal) S2x128x3584 e)} {l : Fin 2}
    {G : Fin 128 → Fin 3584 → Elt Ideal e} (hL : ReadsCodes v L l 3584 G) (q : ℕ) (hq : q = l.val)
    (inb : ∀ x, (![q, 0, 0] : Fin 3 → ℕ) x + S1x128x3584.size x ≤ S2x128x3584.size x)
    (f : v.ty.Contents (Elt Ideal)) (i : Fin 128) (J : Fin 3584) :
    View.readAt (Elt Ideal) v (Rect.unit (s := S2x128x3584) ![q, 0, 0] S1x128x3584.size inb).toLoadRect (v.writes (Elt Ideal) f L) (ix3 0 i J)
      = G i J := by
  rw [View.readAt_apply, idx_unit3 q 0 0 inb 0 i J (by show q + 0 < 2; omega) (by omega) (by omega)]
  simp only [Nat.zero_add]
  rw [show (⟨q + (0 : Fin 1).val, _⟩ : Fin 2) = l from Fin.ext (by show q + 0 = l.val; omega)]
  exact hL f i J J.isLt

/-- A load of all codes of a layer boundary. -/
theorem ReadsCodes.load {v : View sig κ sp S2x128x3584 e} {L : List (View.Piece (Elt Ideal) S2x128x3584 e)} {l : Fin 2}
    {G : Fin 128 → Fin 3584 → Elt Ideal e} (hL : ReadsCodes v L l 3584 G) (q : ℕ) (hq : q = l.val)
    (inb : ∀ x, (![q, 0, 0] : Fin 3 → ℕ) x + S1x128x3584.size x ≤ S2x128x3584.size x) (i : Fin 128) (J : Fin 3584) :
    v.readCov L (Rect.unit (s := S2x128x3584) ![q, 0, 0] S1x128x3584.size inb).toLoadRect (ix3 0 i J) = G i J :=
  hL.read q hq inb v.junk i J

/-- A row of the scales, read where it was stored last. -/
theorem read_row {v : View sig κ sp S2x128 e} (L : List (View.Piece (Elt Ideal) S2x128 e)) (q : ℕ) (hq : q < 2)
    (inb : ∀ x, (![q, 0] : Fin 2 → ℕ) x + S1x128.size x ≤ S2x128.size x) (w : S1x128.Idx → Elt Ideal e)
    (f : v.ty.Contents (Elt Ideal)) (i : Fin 128) :
    View.readAt (Elt Ideal) v (Rect.unit (s := S2x128) ![q, 0] S1x128.size inb).toLoadRect
      (v.writes (Elt Ideal) f (⟨Rect.unit (s := S2x128) ![q, 0] S1x128.size inb, w⟩ :: L)) (ix2 0 i) = w (ix2 0 i) := by
  rw [View.readAt_apply, idx_unit2 q 0 inb 0 i (by show q + 0 < 2; omega) (by omega)]
  refine View.read_writes_cons_unit_of_mem v f inb w L _ (ix2 0 i) rfl fun x => ?_
  match x with
  | 0 => rfl
  | 1 => rfl

end Cert.KernelIdeal.Hand
-- ==== Proof.KernelIdeal.First.lean ====
module

public import proofs.«01_k».proof.Proof.KernelIdeal.Entries
public import proofs.«01_k».proof.Proof.KernelIdeal.Stores
public import proofs.«01_k».proof.Proof.KernelIdeal.Run

/-!
The first layer of the kernel: what the state holds after its seven slabs, and the running maximum of its rows.
-/

@[expose] public section

noncomputable section

namespace Cert.KernelIdeal.Hand

open Cert.KernelIdeal Cert.KernelIdeal.Gen Cert.Math
open Idealize.ShloMosaic Idealize.ShloMosaic.TcCoe Idealize.SL.Sem

variable {c : Dev nD} (x0 : BufOf (F := Ideal) c hbM0) (x1 : BufOf (F := Ideal) c hbM1) (x2 : BufOf (F := Ideal) c hbM2)
  (x3 : BufOf (F := Ideal) c hbM3) (x4 : BufOf (F := Ideal) c hbM4)
  (z0 : BufOf (F := Ideal) c scM0) (z1 : BufOf (F := Ideal) c scM1) (z2 : BufOf (F := Ideal) c scM2) (z3 : BufOf (F := Ideal) c scM3)
  (z4 : BufOf (F := Ideal) c scM4)

/-- The five operands, entry by entry. -/
def inputs : Inputs := ⟨inX x0, inS x1, inW x2, inWs x3, inB x4⟩

/-- A slab of 512 columns lies within the columns of an array of 128 rows. -/
theorem colInb (o : ℕ) (ho : o + 512 ≤ 3584) : ∀ a, (![0, o] : Fin 2 → ℕ) a + S128x512.size a ≤ S128x3584.size a := fun a => by
  match a with
  | 0 => exact Nat.le_refl 128
  | 1 => exact ho

/-- A slab of 512 columns of a layer lies within an array of three rows. -/
theorem rowInb (l o : ℕ) (hl : l < 3) (ho : o + 512 ≤ 3584) : ∀ a, (![l, o] : Fin 2 → ℕ) a + S1x512.size a ≤ S3x3584.size a := fun a => by
  match a with
  | 0 => exact hl
  | 1 => exact ho

/-- A slab of the weights lies within them. -/
theorem wInb (l o : ℕ) (hl : l < 3) (ho : o + 512 ≤ 3584) :
    ∀ a, (![l, 0, o] : Fin 3 → ℕ) a + S1x3584x512.size a ≤ S3x3584x3584.size a := fun a => by
  match a with
  | 0 => exact hl
  | 1 => exact Nat.le_refl 3584
  | 2 => exact ho

/-- The buffer of a slab of the weights lies within the buffer of all slabs. -/
theorem wbufInb (l j : ℕ) (hl : l < 3) (hj : j < 7) :
    ∀ a, (![l, j, 0, 0] : Fin 4 → ℕ) a + S1x1x3584x512.size a ≤ S3x7x3584x512.size a := fun a => by
  match a with
  | 0 => exact hl
  | 1 => exact hj
  | 2 => exact Nat.le_refl 3584
  | 3 => exact Nat.le_refl 512

/-- The loads of the kernel: a slab of the input's codes, all of them, the input's scales, a slab of the column scales, of the bias
    and of the weights. -/
def ldX (o : ℕ) (ho : o + 512 ≤ 3584) : Vec Ideal S128x512 .fp8e4m3 :=
  View.readAt (Elt Ideal) scM1.view (Rect.unit (s := S128x3584) ![0, o] S128x512.size (colInb o ho)).toLoadRect
    (View.write (Elt Ideal) scM1.view z1 (ReadAs.same.apply (View.read (Elt Ideal) hbM0.view x0)) Finset.univ)
def ldXall : Vec Ideal S128x3584 .fp8e4m3 :=
  View.readAt (Elt Ideal) scM1.view (Rect.unit (s := S128x3584) ![0, 0] S128x3584.size inb_S128x3584_S128x3584_0_0).toLoadRect
    (View.write (Elt Ideal) scM1.view z1 (ReadAs.same.apply (View.read (Elt Ideal) hbM0.view x0)) Finset.univ)
def ldS : Vec Ideal S1x128 .f32 :=
  View.readAt (Elt Ideal) scM2.view (Rect.unit (s := S1x128) ![0, 0] S1x128.size inb_S1x128_S1x128_0_0).toLoadRect
    (View.write (Elt Ideal) scM2.view z2 (ReadAs.same.apply (View.read (Elt Ideal) hbM1.view x1)) Finset.univ)
def ldWs (l o : ℕ) (hl : l < 3) (ho : o + 512 ≤ 3584) : Vec Ideal S1x512 .f32 :=
  View.readAt (Elt Ideal) scM3.view (Rect.unit (s := S3x3584) ![l, o] S1x512.size (rowInb l o hl ho)).toLoadRect
    (View.write (Elt Ideal) scM3.view z3 (ReadAs.same.apply (View.read (Elt Ideal) hbM3.view x3)) Finset.univ)
def ldB (l o : ℕ) (hl : l < 3) (ho : o + 512 ≤ 3584) : Vec Ideal S1x512 .f32 :=
  View.readAt (Elt Ideal) scM4.view (Rect.unit (s := S3x3584) ![l, o] S1x512.size (rowInb l o hl ho)).toLoadRect
    (View.write (Elt Ideal) scM4.view z4 (ReadAs.same.apply (View.read (Elt Ideal) hbM4.view x4)) Finset.univ)
def ldW (l j o : ℕ) (hl : l < 3) (hj : j < 7) (ho : o + 512 ≤ 3584) : Vec Ideal S1x1x3584x512 .fp8e4m3 :=
  View.readAt (Elt Ideal) scM0.view (Rect.unit (s := S3x7x3584x512) ![l, j, 0, 0] S1x1x3584x512.size (wbufInb l j hl hj)).toLoadRect
    (View.write (Elt Ideal) ((scM0.slice (Rect.unit (s := S3x7x3584x512) ![l, j, 0, 0] S1x1x3584x512.size (wbufInb l j hl hj))
        (fun _ => rfl)).squeeze S3584x512 squeezes_S1x1x3584x512_S3584x512).view z0
      (ReadAs.same.apply (View.read (Elt Ideal)
        ((hbM2.slice (Rect.unit (s := S3x3584x3584) ![l, 0, o] S1x3584x512.size (wInb l o hl ho)) (fun _ => rfl)).squeeze
          S3584x512 squeezes_S1x3584x512_S3584x512).view x2)) Finset.univ)

/-- The slab of the first layer which begins at column `o`. -/
def firstSlab (j o : ℕ) (hj : j < 7) (ho : o + 512 ≤ 3584) : FVec Ideal S128x512 .f32 :=
  crossFirst (inputScale (ldS x1 z2)) (ldXall x0 z1) (ldW x2 z0 0 j o (by decide) hj ho) (ldWs x3 z3 0 o (by decide) ho)
    (ldB x4 z4 0 o (by decide) ho) (ldX x0 z1 o ho)

/-- The input's scales over a slab. -/
theorem inputScale_ld (i : Fin 128) (k : Fin 512) : inputScale (ldS x1 z2) (ix2 i k) = (inputs x0 x1 x2 x3 x4).s i :=
  inputScale_apply (fun i => load_s x1 z2 inb_S1x128_S1x128_0_0 i) i k

/-- The slab holds the entries of the first layer. -/
theorem firstSlab_apply (j o : ℕ) (hj : j < 7) (ho : o + 512 ≤ 3584) (i : Fin 128) (k : Fin 512) :
    firstSlab x0 x1 x2 x3 x4 z0 z1 z2 z3 z4 j o hj ho (ix2 i k) = (inputs x0 x1 x2 x3 x4).x1 i (col o ho k) :=
  crossFirst_apply o ho (inputScale_ld x0 x1 x2 x3 x4 z2) (fun i K => load_x_all x0 z1 _ i K)
    (fun K k => load_w x2 z0 0 j o (by decide) ho _ _ _ _ _ _ K k) (fun k => load_ws x3 z3 0 o (by decide) ho _ k)
    (fun k => load_b x4 z4 0 o (by decide) ho _ k) (fun i k => load_x x0 z1 o ho _ i k) i k

/-- The stored slab holds them too. -/
theorem firstSlab_stored (j o : ℕ) (hj : j < 7) (ho : o + 512 ≤ 3584) (i : Fin 128) (k : Fin 512) :
    stored (firstSlab x0 x1 x2 x3 x4 z0 z1 z2 z3 z4 j o hj ho) (ix2 i k) = (inputs x0 x1 x2 x3 x4).x1 i (col o ho k) :=
  (stored_apply _ i k).trans (firstSlab_apply x0 x1 x2 x3 x4 z0 z1 z2 z3 z4 j o hj ho i k)

/-- After the seven stores of the first layer the state holds the first layer. -/
theorem state1 : ReadsCols scM5.view (kernelRun.sl.HZ5_7 c x0 x1 x2 x3 x4 z0 z1 z2 z3 z4) 0 3584 (inputs x0 x1 x2 x3 x4).x1 := by
  have S := firstSlab_stored x0 x1 x2 x3 x4 z0 z1 z2 z3 z4
  have h := ReadsCols.nil scM5.view [] 0 (inputs x0 x1 x2 x3 x4).x1
  have h := h.next 0 (by decide) (colInb _ (by decide)) _ (S 0 0 (by decide) (by decide))
  have h := h.next 512 (by decide) (colInb _ (by decide)) _ (S 1 512 (by decide) (by decide))
  have h := h.next 1024 (by decide) (colInb _ (by decide)) _ (S 2 1024 (by decide) (by decide))
  have h := h.next 1536 (by decide) (colInb _ (by decide)) _ (S 3 1536 (by decide) (by decide))
  have h := h.next 2048 (by decide) (colInb _ (by decide)) _ (S 4 2048 (by decide) (by decide))
  have h := h.next 2560 (by decide) (colInb _ (by decide)) _ (S 5 2560 (by decide) (by decide))
  have h := h.next 3072 (by decide) (colInb _ (by decide)) _ (S 6 3072 (by decide) (by decide))
  exact h

/-- The running maximum after the seven slabs of the first layer. -/
def amax1 : FVec Ideal S128x128 .f32 :=
  let S := firstSlab x0 x1 x2 x3 x4 z0 z1 z2 z3 z4
  amaxStep (amaxStep (amaxStep (amaxStep (amaxStep (amaxStep (amaxStep amaxZero (S 0 0 (by decide) (by decide)))
    (S 1 512 (by decide) (by decide))) (S 2 1024 (by decide) (by decide))) (S 3 1536 (by decide) (by decide)))
    (S 4 2048 (by decide) (by decide))) (S 5 2560 (by decide) (by decide))) (S 6 3072 (by decide) (by decide))

/-- It is the running maximum of all columns of the first layer. -/
theorem amax1_running : Running (inputs x0 x1 x2 x3 x4).x1 3584 fun i k => amax1 x0 x1 x2 x3 x4 z0 z1 z2 z3 z4 (ix2 i k) := by
  have S := firstSlab_apply x0 x1 x2 x3 x4 z0 z1 z2 z3 z4
  have h := amaxZero_running (inputs x0 x1 x2 x3 x4).x1
  have h := amaxStep_running h rfl (by decide) (S 0 0 (by decide) (by decide))
  have h := amaxStep_running h rfl (by decide) (S 1 512 (by decide) (by decide))
  have h := amaxStep_running h rfl (by decide) (S 2 1024 (by decide) (by decide))
  have h := amaxStep_running h rfl (by decide) (S 3 1536 (by decide) (by decide))
  have h := amaxStep_running h rfl (by decide) (S 4 2048 (by decide) (by decide))
  have h := amaxStep_running h rfl (by decide) (S 5 2560 (by decide) (by decide))
  have h := amaxStep_running h rfl (by decide) (S 6 3072 (by decide) (by decide))
  exact h

/-- The numbers whose exponents scale the rows of the first layer, as the run computes them. -/
theorem r18_eq : kernelRun.sl.r_18 c x0 x1 x2 x3 x4 z0 z1 z2 z3 z4 = peak (amax1 x0 x1 x2 x3 x4 z0 z1 z2 z3 z4) := rfl

/-- The exponent fields of the rows of the first layer, as the run computes them. -/
theorem r21_eq : kernelRun.sl.r_21 c x0 x1 x2 x3 x4 z0 z1 z2 z3 z4
    = fieldSearch (kernelRun.sl.r_18 c x0 x1 x2 x3 x4 z0 z1 z2 z3 z4) := rfl

end Cert.KernelIdeal.Hand
-- ==== Proof.KernelIdeal.Second.lean ====
module

public import proofs.«01_k».proof.Proof.KernelIdeal.First

/-!
The second layer of the kernel: the scales and the codes of the first boundary, and the slabs of the second layer.
-/

@[expose] public section

noncomputable section

namespace Cert.KernelIdeal.Hand

open Cert.KernelIdeal Cert.KernelIdeal.Gen Cert.Math
open Idealize.ShloMosaic Idealize.ShloMosaic.TcCoe Idealize.SL.Sem

variable {c : Dev nD} (x0 : BufOf (F := Ideal) c hbM0) (x1 : BufOf (F := Ideal) c hbM1) (x2 : BufOf (F := Ideal) c hbM2)
  (x3 : BufOf (F := Ideal) c hbM3) (x4 : BufOf (F := Ideal) c hbM4)
  (z0 : BufOf (F := Ideal) c scM0) (z1 : BufOf (F := Ideal) c scM1) (z2 : BufOf (F := Ideal) c scM2) (z3 : BufOf (F := Ideal) c scM3)
  (z4 : BufOf (F := Ideal) c scM4)

/-- The numbers whose exponents scale the rows of the first layer. -/
theorem r18_apply (i k : Fin 128) :
    kernelRun.sl.r_18 c x0 x1 x2 x3 x4 z0 z1 z2 z3 z4 (ix2 i k) = rowPeak (inputs x0 x1 x2 x3 x4).x1 i :=
  peak_apply (amax1_running x0 x1 x2 x3 x4 z0 z1 z2 z3 z4) i k

/-- The scales of the rows of the first layer, over a slab. -/
theorem r22_apply (i : Fin 128) (k : Fin 512) :
    kernelRun.sl.r_22 c x0 x1 x2 x3 x4 z0 z1 z2 z3 z4 (ix2 i k) = rowScale (inputs x0 x1 x2 x3 x4).x1 i :=
  tiled_apply (fun i k => scaleOf_apply (r18_apply x0 x1 x2 x3 x4 z0 z1 z2 z3 z4) i k) i k

/-- Their reciprocals. -/
theorem r23_apply (i : Fin 128) (k : Fin 512) :
    kernelRun.sl.r_23 c x0 x1 x2 x3 x4 z0 z1 z2 z3 z4 (ix2 i k) = rowInv (inputs x0 x1 x2 x3 x4).x1 i :=
  tiled_apply (fun i k => invOf_apply (r18_apply x0 x1 x2 x3 x4 z0 z1 z2 z3 z4) i k) i k

/-- The scales of the rows of the first layer, as the row which is stored. -/
theorem scales1 (i : Fin 128) :
    k0_pay40 (F := Ideal) (kernelRun.sl.r_21 c x0 x1 x2 x3 x4 z0 z1 z2 z3 z4) (ix2 0 i) = rowScale (inputs x0 x1 x2 x3 x4).x1 i :=
  scaleRow_apply (r18_apply x0 x1 x2 x3 x4 z0 z1 z2 z3 z4) i

/-- A slab of the stored codes lies within the codes of both boundaries. -/
theorem codesInb (l o : ℕ) (hl : l < 2) (ho : o + 512 ≤ 3584) :
    ∀ a, (![l, 0, o] : Fin 3 → ℕ) a + S1x128x512.size a ≤ S2x128x3584.size a := fun a => by
  match a with
  | 0 => exact hl
  | 1 => exact Nat.le_refl 128
  | 2 => exact ho

/-- A slab of the state, read back after the first layer. -/
def back1 (o : ℕ) (ho : o + 512 ≤ 3584) : FVec Ideal S128x512 .f32 :=
  View.readCov (Val := Elt Ideal) scM5.view (kernelRun.sl.HZ5_7 c x0 x1 x2 x3 x4 z0 z1 z2 z3 z4)
    (Rect.unit (s := S128x3584) ![0, o] S128x512.size (colInb o ho)).toLoadRect

/-- The slab is a slab of the first layer. -/
theorem back1_apply (o : ℕ) (ho : o + 512 ≤ 3584) (i : Fin 128) (k : Fin 512) :
    back1 x0 x1 x2 x3 x4 z0 z1 z2 z3 z4 o ho (ix2 i k) = (inputs x0 x1 x2 x3 x4).x1 i (col o ho k) :=
  (state1 x0 x1 x2 x3 x4 z0 z1 z2 z3 z4).load o ho _ (Nat.zero_le _) ho i k

/-- The codes of a slab of the first layer. -/
theorem quant1_apply (o : ℕ) (ho : o + 512 ≤ 3584) (i : Fin 128) (k : Fin 512) :
    quant (kernelRun.sl.r_23 c x0 x1 x2 x3 x4 z0 z1 z2 z3 z4) (back1 x0 x1 x2 x3 x4 z0 z1 z2 z3 z4 o ho) (ix3 0 i k)
      = codes (inputs x0 x1 x2 x3 x4).x1 i (col o ho k) :=
  quant_apply o ho (r23_apply x0 x1 x2 x3 x4 z0 z1 z2 z3 z4) (back1_apply x0 x1 x2 x3 x4 z0 z1 z2 z3 z4 o ho) i k

/-- After the seven stores of the first boundary its codes are those of the first layer. -/
theorem codes1 :
    ReadsCodes scM6.view (kernelRun.sl.HC0_7 c x0 x1 x2 x3 x4 z0 z1 z2 z3 z4) 0 3584 (codes (inputs x0 x1 x2 x3 x4).x1) := by
  have Q := quant1_apply x0 x1 x2 x3 x4 z0 z1 z2 z3 z4
  have h := ReadsCodes.nil scM6.view [] 0 (codes (inputs x0 x1 x2 x3 x4).x1)
  have h := h.next 0 (by decide) 0 rfl (codesInb _ _ (by decide) (by decide)) _ (Q 0 (by decide))
  have h := h.next 512 (by decide) 0 rfl (codesInb _ _ (by decide) (by decide)) _ (Q 512 (by decide))
  have h := h.next 1024 (by decide) 0 rfl (codesInb _ _ (by decide) (by decide)) _ (Q 1024 (by decide))
  have h := h.next 1536 (by decide) 0 rfl (codesInb _ _ (by decide) (by decide)) _ (Q 1536 (by decide))
  have h := h.next 2048 (by decide) 0 rfl (codesInb _ _ (by decide) (by decide)) _ (Q 2048 (by decide))
  have h := h.next 2560 (by decide) 0 rfl (codesInb _ _ (by decide) (by decide)) _ (Q 2560 (by decide))
  have h := h.next 3072 (by decide) 0 rfl (codesInb _ _ (by decide) (by decide)) _ (Q 3072 (by decide))
  exact h

/-- The codes which the second layer loads. -/
theorem v579_apply (i : Fin 128) (K : Fin 3584) :
    kernelRun.sl.v579 c x0 x1 x2 x3 x4 z0 z1 z2 z3 z4 (ix3 0 i K) = codes (inputs x0 x1 x2 x3 x4).x1 i K :=
  (codes1 x0 x1 x2 x3 x4 z0 z1 z2 z3 z4).load 0 rfl _ i K

/-- The slab of the second layer which begins at column `o`, out of the slab `prev` of the first. -/
def secondSlab (j o : ℕ) (hj : j < 7) (ho : o + 512 ≤ 3584) (prev : FVec Ideal S128x512 .f32) : FVec Ideal S128x512 .f32 :=
  crossNext (inputScale (ldS x1 z2)) (kernelRun.sl.r_22 c x0 x1 x2 x3 x4 z0 z1 z2 z3 z4)
    (kernelRun.sl.v579 c x0 x1 x2 x3 x4 z0 z1 z2 z3 z4) (ldW x2 z0 1 j o (by decide) hj ho) (ldWs x3 z3 1 o (by decide) ho)
    (ldB x4 z4 1 o (by decide) ho) (ldX x0 z1 o ho) prev

/-- The slab holds the entries of the second layer. -/
theorem secondSlab_apply {prev : FVec Ideal S128x512 .f32} (j o : ℕ) (hj : j < 7) (ho : o + 512 ≤ 3584)
    (hp : ∀ i k, prev (ix2 i k) = (inputs x0 x1 x2 x3 x4).x1 i (col o ho k)) (i : Fin 128) (k : Fin 512) :
    secondSlab x0 x1 x2 x3 x4 z0 z1 z2 z3 z4 j o hj ho prev (ix2 i k) = (inputs x0 x1 x2 x3 x4).x2 i (col o ho k) :=
  crossNext_apply o ho (inputScale_ld x0 x1 x2 x3 x4 z2) (r22_apply x0 x1 x2 x3 x4 z0 z1 z2 z3 z4)
    (v579_apply x0 x1 x2 x3 x4 z0 z1 z2 z3 z4)
    (fun K k => load_w x2 z0 1 j o (by decide) ho _ _ _ _ _ _ K k) (fun k => load_ws x3 z3 1 o (by decide) ho _ k)
    (fun k => load_b x4 z4 1 o (by decide) ho _ k) (fun i k => load_x x0 z1 o ho _ i k) hp i k

/-- The stored slab holds them too. -/
theorem secondSlab_stored {prev : FVec Ideal S128x512 .f32} (j o : ℕ) (hj : j < 7) (ho : o + 512 ≤ 3584)
    (hp : ∀ i k, prev (ix2 i k) = (inputs x0 x1 x2 x3 x4).x1 i (col o ho k)) (i : Fin 128) (k : Fin 512) :
    stored (secondSlab x0 x1 x2 x3 x4 z0 z1 z2 z3 z4 j o hj ho prev) (ix2 i k) = (inputs x0 x1 x2 x3 x4).x2 i (col o ho k) :=
  (stored_apply _ i k).trans (secondSlab_apply x0 x1 x2 x3 x4 z0 z1 z2 z3 z4 j o hj ho hp i k)

/-- What the state holds within the second layer: columns below `o` of the second layer, the others of the first. -/
structure Between (L : List (View.Piece (Elt Ideal) S128x3584 .f32)) (o : ℕ) : Prop where
  done : ReadsCols scM5.view L 0 o (inputs x0 x1 x2 x3 x4).x2
  todo : ReadsCols scM5.view L o 3584 (inputs x0 x1 x2 x3 x4).x1

/-- The next slab of the state, before it is replaced, is a slab of the first layer. -/
theorem Between.back {x0 : BufOf (F := Ideal) c hbM0} {x1 : BufOf (F := Ideal) c hbM1} {x2 : BufOf (F := Ideal) c hbM2}
    {x3 : BufOf (F := Ideal) c hbM3} {x4 : BufOf (F := Ideal) c hbM4} {L : List (View.Piece (Elt Ideal) S128x3584 .f32)} {o : ℕ} (h : Between x0 x1 x2 x3 x4 L o)
    (ho : o + 512 ≤ 3584) (i : Fin 128) (k : Fin 512) :
    View.readCov (Val := Elt Ideal) scM5.view L (Rect.unit (s := S128x3584) ![0, o] S128x512.size (colInb o ho)).toLoadRect (ix2 i k)
      = (inputs x0 x1 x2 x3 x4).x1 i (col o ho k) :=
  h.todo.load o ho _ (Nat.le_refl _) ho i k

/-- The list of stores after the next slab. -/
def grow (L : List (View.Piece (Elt Ideal) S128x3584 .f32)) (j o : ℕ) (hj : j < 7) (ho : o + 512 ≤ 3584) :
    List (View.Piece (Elt Ideal) S128x3584 .f32) :=
  ⟨Rect.unit (s := S128x3584) ![0, o] S128x512.size (colInb o ho),
    stored (secondSlab x0 x1 x2 x3 x4 z0 z1 z2 z3 z4 j o hj ho (View.readCov (Val := Elt Ideal) scM5.view L
      (Rect.unit (s := S128x3584) ![0, o] S128x512.size (colInb o ho)).toLoadRect))⟩ :: L

variable {x0 x1 x2 x3 x4}

/-- The next slab of the second layer. -/
theorem Between.step {L : List (View.Piece (Elt Ideal) S128x3584 .f32)} {o : ℕ} (h : Between x0 x1 x2 x3 x4 L o)
    (j : ℕ) (hj : j < 7) (ho : o + 512 ≤ 3584) :
    Between x0 x1 x2 x3 x4 (grow x0 x1 x2 x3 x4 z0 z1 z2 z3 z4 L j o hj ho) (o + 512) where
  done := h.done.next o ho _ _ (secondSlab_stored x0 x1 x2 x3 x4 z0 z1 z2 z3 z4 j o hj ho (h.back ho))
  todo := h.todo.beside o _ _ (o + 512) (Nat.le_add_right _ _) (Nat.le_refl _)

variable (x0 x1 x2 x3 x4)

/-- Before the second layer, and after each of its first six slabs. -/
theorem between0 : Between x0 x1 x2 x3 x4 (kernelRun.sl.HZ5_7 c x0 x1 x2 x3 x4 z0 z1 z2 z3 z4) 0 :=
  ⟨ReadsCols.nil _ _ _ _, state1 x0 x1 x2 x3 x4 z0 z1 z2 z3 z4⟩
theorem between1 : Between x0 x1 x2 x3 x4 (kernelRun.sl.HZ5_8 c x0 x1 x2 x3 x4 z0 z1 z2 z3 z4) 512 :=
  (between0 x0 x1 x2 x3 x4 z0 z1 z2 z3 z4).step z0 z1 z2 z3 z4 0 (by decide) (by decide)
theorem between2 : Between x0 x1 x2 x3 x4 (kernelRun.sl.HZ5_9 c x0 x1 x2 x3 x4 z0 z1 z2 z3 z4) 1024 :=
  (between1 x0 x1 x2 x3 x4 z0 z1 z2 z3 z4).step z0 z1 z2 z3 z4 1 (by decide) (by decide)
theorem between3 : Between x0 x1 x2 x3 x4 (kernelRun.sl.HZ5_10 c x0 x1 x2 x3 x4 z0 z1 z2 z3 z4) 1536 :=
  (between2 x0 x1 x2 x3 x4 z0 z1 z2 z3 z4).step z0 z1 z2 z3 z4 2 (by decide) (by decide)
theorem between4 : Between x0 x1 x2 x3 x4 (kernelRun.sl.HZ5_11 c x0 x1 x2 x3 x4 z0 z1 z2 z3 z4) 2048 :=
  (between3 x0 x1 x2 x3 x4 z0 z1 z2 z3 z4).step z0 z1 z2 z3 z4 3 (by decide) (by decide)
theorem between5 : Between x0 x1 x2 x3 x4 (kernelRun.sl.HZ5_12 c x0 x1 x2 x3 x4 z0 z1 z2 z3 z4) 2560 :=
  (between4 x0 x1 x2 x3 x4 z0 z1 z2 z3 z4).step z0 z1 z2 z3 z4 4 (by decide) (by decide)
theorem between6 : Between x0 x1 x2 x3 x4 (kernelRun.sl.HZ5_13 c x0 x1 x2 x3 x4 z0 z1 z2 z3 z4) 3072 :=
  (between5 x0 x1 x2 x3 x4 z0 z1 z2 z3 z4).step z0 z1 z2 z3 z4 5 (by decide) (by decide)

end Cert.KernelIdeal.Hand
-- ==== Proof.KernelIdeal.Third.lean ====
module

public import proofs.«01_k».proof.Proof.KernelIdeal.Second

/-!
The third layer of the kernel: the scales and the codes of the second boundary, and the slabs of the output.
-/

@[expose] public section

noncomputable section

namespace Cert.KernelIdeal.Hand

open Cert.KernelIdeal Cert.KernelIdeal.Gen Cert.Math
open Idealize.ShloMosaic Idealize.ShloMosaic.TcCoe Idealize.SL.Sem

variable {c : Dev nD} (x0 : BufOf (F := Ideal) c hbM0) (x1 : BufOf (F := Ideal) c hbM1) (x2 : BufOf (F := Ideal) c hbM2)
  (x3 : BufOf (F := Ideal) c hbM3) (x4 : BufOf (F := Ideal) c hbM4)
  (z0 : BufOf (F := Ideal) c scM0) (z1 : BufOf (F := Ideal) c scM1) (z2 : BufOf (F := Ideal) c scM2) (z3 : BufOf (F := Ideal) c scM3)
  (z4 : BufOf (F := Ideal) c scM4)

/-- The state after its last store of the second layer. -/
def stores2 : List (View.Piece (Elt Ideal) S128x3584 .f32) :=
  grow x0 x1 x2 x3 x4 z0 z1 z2 z3 z4 (kernelRun.sl.HZ5_13 c x0 x1 x2 x3 x4 z0 z1 z2 z3 z4) 6 3072 (by decide) (by decide)

/-- It holds the second layer. -/
theorem state2 : ReadsCols scM5.view (stores2 x0 x1 x2 x3 x4 z0 z1 z2 z3 z4) 0 3584 (inputs x0 x1 x2 x3 x4).x2 :=
  ((between6 x0 x1 x2 x3 x4 z0 z1 z2 z3 z4).step z0 z1 z2 z3 z4 6 (by decide) (by decide)).done

/-- The running maximum after the seven slabs of the second layer. -/
def amax2 : FVec Ideal S128x128 .f32 :=
  let S := secondSlab x0 x1 x2 x3 x4 z0 z1 z2 z3 z4
  amaxStep (amaxStep (amaxStep (amaxStep (amaxStep (amaxStep (amaxStep amaxZero
    (S 0 0 (by decide) (by decide) (kernelRun.sl.v495 c x0 x1 x2 x3 x4 z0 z1 z2 z3 z4)))
    (S 1 512 (by decide) (by decide) (kernelRun.sl.v634 c x0 x1 x2 x3 x4 z0 z1 z2 z3 z4)))
    (S 2 1024 (by decide) (by decide) (kernelRun.sl.v673 c x0 x1 x2 x3 x4 z0 z1 z2 z3 z4)))
    (S 3 1536 (by decide) (by decide) (kernelRun.sl.v712 c x0 x1 x2 x3 x4 z0 z1 z2 z3 z4)))
    (S 4 2048 (by decide) (by decide) (kernelRun.sl.v751 c x0 x1 x2 x3 x4 z0 z1 z2 z3 z4)))
    (S 5 2560 (by decide) (by decide) (kernelRun.sl.v790 c x0 x1 x2 x3 x4 z0 z1 z2 z3 z4)))
    (S 6 3072 (by decide) (by decide) (kernelRun.sl.v829 c x0 x1 x2 x3 x4 z0 z1 z2 z3 z4))

/-- It is the running maximum of all columns of the second layer. -/
theorem amax2_running : Running (inputs x0 x1 x2 x3 x4).x2 3584 fun i k => amax2 x0 x1 x2 x3 x4 z0 z1 z2 z3 z4 (ix2 i k) := by
  have S := fun prev => secondSlab_apply x0 x1 x2 x3 x4 z0 z1 z2 z3 z4 (prev := prev)
  have h := amaxZero_running (inputs x0 x1 x2 x3 x4).x2
  have h := amaxStep_running h rfl (by decide) (S (kernelRun.sl.v495 c x0 x1 x2 x3 x4 z0 z1 z2 z3 z4) 0 0 (by decide) (by decide)
    ((between0 x0 x1 x2 x3 x4 z0 z1 z2 z3 z4).back (by decide)))
  have h := amaxStep_running h rfl (by decide) (S (kernelRun.sl.v634 c x0 x1 x2 x3 x4 z0 z1 z2 z3 z4) 1 512 (by decide) (by decide)
    ((between1 x0 x1 x2 x3 x4 z0 z1 z2 z3 z4).back (by decide)))
  have h := amaxStep_running h rfl (by decide) (S (kernelRun.sl.v673 c x0 x1 x2 x3 x4 z0 z1 z2 z3 z4) 2 1024 (by decide) (by decide)
    ((between2 x0 x1 x2 x3 x4 z0 z1 z2 z3 z4).back (by decide)))
  have h := amaxStep_running h rfl (by decide) (S (kernelRun.sl.v712 c x0 x1 x2 x3 x4 z0 z1 z2 z3 z4) 3 1536 (by decide) (by decide)
    ((between3 x0 x1 x2 x3 x4 z0 z1 z2 z3 z4).back (by decide)))
  have h := amaxStep_running h rfl (by decide) (S (kernelRun.sl.v751 c x0 x1 x2 x3 x4 z0 z1 z2 z3 z4) 4 2048 (by decide) (by decide)
    ((between4 x0 x1 x2 x3 x4 z0 z1 z2 z3 z4).back (by decide)))
  have h := amaxStep_running h rfl (by decide) (S (kernelRun.sl.v790 c x0 x1 x2 x3 x4 z0 z1 z2 z3 z4) 5 2560 (by decide) (by decide)
    ((between5 x0 x1 x2 x3 x4 z0 z1 z2 z3 z4).back (by decide)))
  have h := amaxStep_running h rfl (by decide) (S (kernelRun.sl.v829 c x0 x1 x2 x3 x4 z0 z1 z2 z3 z4) 6 3072 (by decide) (by decide)
    ((between6 x0 x1 x2 x3 x4 z0 z1 z2 z3 z4).back (by decide)))
  exact h

/-- The numbers whose exponents scale the rows of the second layer, as the run computes them. -/
theorem r42_eq : kernelRun.sl.r_42 c x0 x1 x2 x3 x4 z0 z1 z2 z3 z4 = peak (amax2 x0 x1 x2 x3 x4 z0 z1 z2 z3 z4) := rfl

/-- Row by row. -/
theorem r42_apply (i k : Fin 128) :
    kernelRun.sl.r_42 c x0 x1 x2 x3 x4 z0 z1 z2 z3 z4 (ix2 i k) = rowPeak (inputs x0 x1 x2 x3 x4).x2 i := by
  rw [r42_eq]
  exact peak_apply (amax2_running x0 x1 x2 x3 x4 z0 z1 z2 z3 z4) i k

/-- The scales of the rows of the second layer, over a slab. -/
theorem r44_apply (i : Fin 128) (k : Fin 512) :
    kernelRun.sl.r_44 c x0 x1 x2 x3 x4 z0 z1 z2 z3 z4 (ix2 i k) = rowScale (inputs x0 x1 x2 x3 x4).x2 i :=
  tiled_apply (fun i k => scaleOf_apply (r42_apply x0 x1 x2 x3 x4 z0 z1 z2 z3 z4) i k) i k

/-- Their reciprocals. -/
theorem r45_apply (i : Fin 128) (k : Fin 512) :
    kernelRun.sl.r_45 c x0 x1 x2 x3 x4 z0 z1 z2 z3 z4 (ix2 i k) = rowInv (inputs x0 x1 x2 x3 x4).x2 i :=
  tiled_apply (fun i k => invOf_apply (r42_apply x0 x1 x2 x3 x4 z0 z1 z2 z3 z4) i k) i k

/-- The scales of the rows of the second layer, as the row which is stored. -/
theorem scales2 (i : Fin 128) :
    k0_pay85 (F := Ideal) (kernelRun.sl.r_42 c x0 x1 x2 x3 x4 z0 z1 z2 z3 z4) (kernelRun.sl.r_43 c x0 x1 x2 x3 x4 z0 z1 z2 z3 z4)
      (ix2 0 i) = rowScale (inputs x0 x1 x2 x3 x4).x2 i :=
  scaleRow_apply (r42_apply x0 x1 x2 x3 x4 z0 z1 z2 z3 z4) i

/-- A slab of the state, read back after the second layer. -/
def back2 (o : ℕ) (ho : o + 512 ≤ 3584) : FVec Ideal S128x512 .f32 :=
  View.readCov (Val := Elt Ideal) scM5.view (stores2 x0 x1 x2 x3 x4 z0 z1 z2 z3 z4)
    (Rect.unit (s := S128x3584) ![0, o] S128x512.size (colInb o ho)).toLoadRect

/-- The slab is a slab of the second layer. -/
theorem back2_apply (o : ℕ) (ho : o + 512 ≤ 3584) (i : Fin 128) (k : Fin 512) :
    back2 x0 x1 x2 x3 x4 z0 z1 z2 z3 z4 o ho (ix2 i k) = (inputs x0 x1 x2 x3 x4).x2 i (col o ho k) :=
  (state2 x0 x1 x2 x3 x4 z0 z1 z2 z3 z4).load o ho _ (Nat.zero_le _) ho i k

/-- The codes of a slab of the second layer. -/
theorem quant2_apply (o : ℕ) (ho : o + 512 ≤ 3584) (i : Fin 128) (k : Fin 512) :
    quant (kernelRun.sl.r_45 c x0 x1 x2 x3 x4 z0 z1 z2 z3 z4) (back2 x0 x1 x2 x3 x4 z0 z1 z2 z3 z4 o ho) (ix3 0 i k)
      = codes (inputs x0 x1 x2 x3 x4).x2 i (col o ho k) :=
  quant_apply o ho (r45_apply x0 x1 x2 x3 x4 z0 z1 z2 z3 z4) (back2_apply x0 x1 x2 x3 x4 z0 z1 z2 z3 z4 o ho) i k

/-- After the seven stores of the second boundary its codes are those of the second layer. -/
theorem codes2 :
    ReadsCodes scM6.view (kernelRun.sl.HC1_7 c x0 x1 x2 x3 x4 z0 z1 z2 z3 z4) 1 3584 (codes (inputs x0 x1 x2 x3 x4).x2) := by
  have Q := quant2_apply x0 x1 x2 x3 x4 z0 z1 z2 z3 z4
  have h := ReadsCodes.nil scM6.view [] 1 (codes (inputs x0 x1 x2 x3 x4).x2)
  have h := h.next 0 (by decide) 1 rfl (codesInb _ _ (by decide) (by decide)) _ (Q 0 (by decide))
  have h := h.next 512 (by decide) 1 rfl (codesInb _ _ (by decide) (by decide)) _ (Q 512 (by decide))
  have h := h.next 1024 (by decide) 1 rfl (codesInb _ _ (by decide) (by decide)) _ (Q 1024 (by decide))
  have h := h.next 1536 (by decide) 1 rfl (codesInb _ _ (by decide) (by decide)) _ (Q 1536 (by decide))
  have h := h.next 2048 (by decide) 1 rfl (codesInb _ _ (by decide) (by decide)) _ (Q 2048 (by decide))
  have h := h.next 2560 (by decide) 1 rfl (codesInb _ _ (by decide) (by decide)) _ (Q 2560 (by decide))
  have h := h.next 3072 (by decide) 1 rfl (codesInb _ _ (by decide) (by decide)) _ (Q 3072 (by decide))
  exact h

/-- The codes which the third layer loads. -/
theorem v1017_apply (i : Fin 128) (K : Fin 3584) :
    kernelRun.sl.v1017 c x0 x1 x2 x3 x4 z0 z1 z2 z3 z4 (ix3 0 i K) = codes (inputs x0 x1 x2 x3 x4).x2 i K :=
  (codes2 x0 x1 x2 x3 x4 z0 z1 z2 z3 z4).load 1 rfl _ i K

/-- The slab of the third layer which begins at column `o`. -/
def thirdSlab (j o : ℕ) (hj : j < 7) (ho : o + 512 ≤ 3584) : FVec Ideal S128x512 .f32 :=
  crossNext (inputScale (ldS x1 z2)) (kernelRun.sl.r_44 c x0 x1 x2 x3 x4 z0 z1 z2 z3 z4)
    (kernelRun.sl.v1017 c x0 x1 x2 x3 x4 z0 z1 z2 z3 z4) (ldW x2 z0 2 j o (by decide) hj ho) (ldWs x3 z3 2 o (by decide) ho)
    (ldB x4 z4 2 o (by decide) ho) (ldX x0 z1 o ho) (back2 x0 x1 x2 x3 x4 z0 z1 z2 z3 z4 o ho)

/-- The slab, as it is stored into the output, holds the entries of the third layer. -/
theorem thirdSlab_stored (j o : ℕ) (hj : j < 7) (ho : o + 512 ≤ 3584) (i : Fin 128) (k : Fin 512) :
    storedOut (thirdSlab x0 x1 x2 x3 x4 z0 z1 z2 z3 z4 j o hj ho) (ix2 i k) = (inputs x0 x1 x2 x3 x4).x3 i (col o ho k) :=
  (storedOut_apply _ i k).trans
    (crossNext_apply o ho (inputScale_ld x0 x1 x2 x3 x4 z2) (r44_apply x0 x1 x2 x3 x4 z0 z1 z2 z3 z4)
      (v1017_apply x0 x1 x2 x3 x4 z0 z1 z2 z3 z4)
      (fun K k => load_w x2 z0 2 j o (by decide) ho _ _ _ _ _ _ K k) (fun k => load_ws x3 z3 2 o (by decide) ho _ k)
      (fun k => load_b x4 z4 2 o (by decide) ho _ k) (fun i k => load_x x0 z1 o ho _ i k)
      (back2_apply x0 x1 x2 x3 x4 z0 z1 z2 z3 z4 o ho) i k)

/-- The output buffer after each of its seven stores. -/
theorem out1 : ReadsCols scM8.view (kernelRun.sl.HZ8_1 c x0 x1 x2 x3 x4 z0 z1 z2 z3 z4) 0 512 (inputs x0 x1 x2 x3 x4).x3 :=
  (ReadsCols.nil scM8.view [] 0 (inputs x0 x1 x2 x3 x4).x3).next 0 (by decide) (colInb _ (by decide)) _
    (thirdSlab_stored x0 x1 x2 x3 x4 z0 z1 z2 z3 z4 0 0 (by decide) (by decide))
theorem out2 : ReadsCols scM8.view (kernelRun.sl.HZ8_2 c x0 x1 x2 x3 x4 z0 z1 z2 z3 z4) 0 1024 (inputs x0 x1 x2 x3 x4).x3 :=
  (out1 x0 x1 x2 x3 x4 z0 z1 z2 z3 z4).next 512 (by decide) (colInb _ (by decide)) _
    (thirdSlab_stored x0 x1 x2 x3 x4 z0 z1 z2 z3 z4 1 512 (by decide) (by decide))
theorem out3 : ReadsCols scM8.view (kernelRun.sl.HZ8_3 c x0 x1 x2 x3 x4 z0 z1 z2 z3 z4) 0 1536 (inputs x0 x1 x2 x3 x4).x3 :=
  (out2 x0 x1 x2 x3 x4 z0 z1 z2 z3 z4).next 1024 (by decide) (colInb _ (by decide)) _
    (thirdSlab_stored x0 x1 x2 x3 x4 z0 z1 z2 z3 z4 2 1024 (by decide) (by decide))
theorem out4 : ReadsCols scM8.view (kernelRun.sl.HZ8_4 c x0 x1 x2 x3 x4 z0 z1 z2 z3 z4) 0 2048 (inputs x0 x1 x2 x3 x4).x3 :=
  (out3 x0 x1 x2 x3 x4 z0 z1 z2 z3 z4).next 1536 (by decide) (colInb _ (by decide)) _
    (thirdSlab_stored x0 x1 x2 x3 x4 z0 z1 z2 z3 z4 3 1536 (by decide) (by decide))
theorem out5 : ReadsCols scM8.view (kernelRun.sl.HZ8_5 c x0 x1 x2 x3 x4 z0 z1 z2 z3 z4) 0 2560 (inputs x0 x1 x2 x3 x4).x3 :=
  (out4 x0 x1 x2 x3 x4 z0 z1 z2 z3 z4).next 2048 (by decide) (colInb _ (by decide)) _
    (thirdSlab_stored x0 x1 x2 x3 x4 z0 z1 z2 z3 z4 4 2048 (by decide) (by decide))
theorem out6 : ReadsCols scM8.view (kernelRun.sl.HZ8_6 c x0 x1 x2 x3 x4 z0 z1 z2 z3 z4) 0 3072 (inputs x0 x1 x2 x3 x4).x3 :=
  (out5 x0 x1 x2 x3 x4 z0 z1 z2 z3 z4).next 2560 (by decide) (colInb _ (by decide)) _
    (thirdSlab_stored x0 x1 x2 x3 x4 z0 z1 z2 z3 z4 5 2560 (by decide) (by decide))
theorem out7 : ReadsCols scM8.view (kernelRun.sl.HZ8_7 c x0 x1 x2 x3 x4 z0 z1 z2 z3 z4) 0 3584 (inputs x0 x1 x2 x3 x4).x3 :=
  (out6 x0 x1 x2 x3 x4 z0 z1 z2 z3 z4).next 3072 (by decide) (colInb _ (by decide)) _
    (thirdSlab_stored x0 x1 x2 x3 x4 z0 z1 z2 z3 z4 6 3072 (by decide) (by decide))

end Cert.KernelIdeal.Hand
-- ==== Proof.KernelIdeal.Results.lean ====
module

public import proofs.«01_k».proof.Proof.KernelIdeal.Third
public import proofs.«01_k».proof.Proof.KernelIdeal.Launched

/-!
What the five result arrays of the kernel hold, entry by entry.
-/

@[expose] public section

noncomputable section

namespace Cert.KernelIdeal.Hand

open Cert.KernelIdeal Cert.KernelIdeal.Gen Cert.Math
open Idealize.ShloMosaic Idealize.ShloMosaic.TcCoe Idealize.SL.Sem

section
variable {c : Dev nD} (x0 : BufOf (F := Ideal) c hbM0) (x1 : BufOf (F := Ideal) c hbM1) (x2 : BufOf (F := Ideal) c hbM2)
  (x3 : BufOf (F := Ideal) c hbM3) (x4 : BufOf (F := Ideal) c hbM4)
  (z0 : BufOf (F := Ideal) c scM0) (z1 : BufOf (F := Ideal) c scM1) (z2 : BufOf (F := Ideal) c scM2) (z3 : BufOf (F := Ideal) c scM3)
  (z4 : BufOf (F := Ideal) c scM4) (z5 : BufOf (F := Ideal) c scM5) (z6 : BufOf (F := Ideal) c scM6) (z7 : BufOf (F := Ideal) c scM7)
  (z8 : BufOf (F := Ideal) c scM8)

/-- The values of the run. -/
abbrev run : Vals Ideal := (kernelRun (F := Ideal) c x0 x1 x2 x3 x4 z0 z1 z2 z3 z4 z5 z6 z7 z8).1

/-- A vector of shape 1x128x3584 without its unit axis. -/
theorem drop_units_codes (v : Vec Ideal S1x128x3584 .fp8e4m3) (h : S1x128x3584.ShapeCasts S128x3584) (i : Fin 128) (J : Fin 3584) :
    shapeCast S128x3584 v h (ix2 i J) = v (ix3 0 i J) := by
  pointwise []

/-- The codes of a boundary, as they are copied out of the buffer of both boundaries. -/
theorem codes_out {L : List (View.Piece (Elt Ideal) S2x128x3584 .fp8e4m3)} {l : Fin 2} {G : Fin 128 → Fin 3584 → Elt Ideal .fp8e4m3}
    (hL : ReadsCodes scM6.view L l 3584 G) (q : ℕ) (hq : q = l.val)
    (inb : ∀ x, (![q, 0, 0] : Fin 3 → ℕ) x + S1x128x3584.size x ≤ S2x128x3584.size x)
    (h1 : ∀ a, (Rect.unit (s := S2x128x3584) ![q, 0, 0] S1x128x3584.size inb).stride a = 1)
    (q1 : (Rect.unit (s := S2x128x3584) ![q, 0, 0] S1x128x3584.size inb).shape.Squeezes S128x3584) (i : Fin 128) (J : Fin 3584) :
    View.read (Elt Ideal) ((scM6.slice (Rect.unit (s := S2x128x3584) ![q, 0, 0] S1x128x3584.size inb) h1).squeeze S128x3584 q1).view
      (scM6.view.writes (Elt Ideal) z6 L) (ix2 i J) = G i J := by
  rw [Memref.read_squeeze_slice scM6 _ h1 q1 q1.numel_eq]
  exact (drop_units_codes _ _ i J).trans (hL.read q hq inb z6 i J)

/-- The transfers which bring the codes to the results. -/
theorem dma73_apply (i : Fin 128) (J : Fin 3584) :
    kernelRun.sl.dma73 c x0 x1 x2 x3 x4 z0 z1 z2 z3 z4 z6 (ix2 i J) = codes (inputs x0 x1 x2 x3 x4).x1 i J := by
  unfold kernelRun.sl.dma73
  exact codes_out z6 (codes1 x0 x1 x2 x3 x4 z0 z1 z2 z3 z4) 0 rfl inb_S2x128x3584_S1x128x3584_0_0_0 (fun _ => rfl)
    squeezes_S1x128x3584_S128x3584 i J
theorem dma23_apply (i : Fin 128) (J : Fin 3584) :
    kernelRun.sl.dma23 c x0 x1 x2 x3 x4 z0 z1 z2 z3 z4 z6 (ix2 i J) = codes (inputs x0 x1 x2 x3 x4).x2 i J := by
  unfold kernelRun.sl.dma23
  exact codes_out z6 (codes2 x0 x1 x2 x3 x4 z0 z1 z2 z3 z4) 1 rfl inb_S2x128x3584_S1x128x3584_1_0_0 (fun _ => rfl)
    squeezes_S1x128x3584_S128x3584 i J

/-- The first boundary's codes. -/
theorem c1_apply (i : Fin 128) (J : Fin 3584) :
    (run x0 x1 x2 x3 x4 z0 z1 z2 z3 z4 z5 z6 z7 z8).c1 (ix2 i J) = codes (inputs x0 x1 x2 x3 x4).x1 i J := by
  unfold run kernelRun
  dsimp only
  exact dma73_apply x0 x1 x2 x3 x4 z0 z1 z2 z3 z4 z6 i J

/-- The second boundary's codes. -/
theorem c2_apply (i : Fin 128) (J : Fin 3584) :
    (run x0 x1 x2 x3 x4 z0 z1 z2 z3 z4 z5 z6 z7 z8).c2 (ix2 i J) = codes (inputs x0 x1 x2 x3 x4).x2 i J := by
  unfold run kernelRun
  dsimp only
  exact dma23_apply x0 x1 x2 x3 x4 z0 z1 z2 z3 z4 z6 i J

/-- The first boundary's scales. -/
theorem s1_apply (i : Fin 128) :
    (run x0 x1 x2 x3 x4 z0 z1 z2 z3 z4 z5 z6 z7 z8).s1 (ix2 0 i) = rowScale (inputs x0 x1 x2 x3 x4).x1 i :=
  (read_row (v := scM7.view) [] 0 (by decide) inb_S2x128_S1x128_0_0 _ z7 i).trans (scales1 x0 x1 x2 x3 x4 z0 z1 z2 z3 z4 i)

/-- The second boundary's scales. -/
theorem s2_apply (i : Fin 128) :
    (run x0 x1 x2 x3 x4 z0 z1 z2 z3 z4 z5 z6 z7 z8).s2 (ix2 0 i) = rowScale (inputs x0 x1 x2 x3 x4).x2 i :=
  (read_row (v := scM7.view) (kernelRun.sl.HZ7_1 c x0 x1 x2 x3 x4 z0 z1 z2 z3 z4) 1 (by decide) inb_S2x128_S1x128_1_0 _ z7 i).trans
    (scales2 x0 x1 x2 x3 x4 z0 z1 z2 z3 z4 i)

/-- The output is read where it lies. -/
theorem read_out (f : BufOf (F := Ideal) c hbM5) : View.read (Elt Ideal) hbM5.view f = f := rfl

/-- A slab of the output, once its piece has been copied out. -/
theorem out_piece {L : List (View.Piece (Elt Ideal) S128x3584 .bf16)} {G : Fin 128 → Fin 3584 → Elt Ideal .bf16} (o : ℕ)
    (ho : o + 512 ≤ 3584) (hL : ReadsCols scM8.view L 0 (o + 512) G) (y0 : BufOf (F := Ideal) c hbM5) (i : Fin 128) (k : Fin 512) :
    hbM5.view.writes (Elt Ideal) y0 [⟨Rect.unit (s := S128x3584) ![0, o] S128x512.size (colInb o ho),
      View.readAt (Elt Ideal) scM8.view (Rect.unit (s := S128x3584) ![0, o] S128x512.size (colInb o ho)).toLoadRect
        (scM8.view.writes (Elt Ideal) z8 L)⟩] (ix2 i (col o ho k)) = G i (col o ho k) := by
  have h := (ReadsCols.nil hbM5.view [] o G).next o ho (colInb o ho)
    (View.readAt (Elt Ideal) scM8.view (Rect.unit (s := S128x3584) ![0, o] S128x512.size (colInb o ho)).toLoadRect
        (scM8.view.writes (Elt Ideal) z8 L)) (fun i k => hL.read o ho (colInb o ho) (Nat.zero_le _) (Nat.le_refl _) z8 i k)
  rw [← read_out (c := c) (hbM5.view.writes (Elt Ideal) y0 _)]
  exact h y0 i (col o ho k) (Nat.le_add_right _ _) (Nat.add_lt_add_left k.isLt _)

/-- The output, slab by slab. -/
theorem o0_apply (y0 : BufOf (F := Ideal) c hbM5) (i : Fin 128) (k : Fin 512) :
    hbM5.view.writes (Elt Ideal) y0 (run x0 x1 x2 x3 x4 z0 z1 z2 z3 z4 z5 z6 z7 z8).o0 (ix2 i (col 0 (by decide) k))
      = (inputs x0 x1 x2 x3 x4).x3 i (col 0 (by decide) k) := by
  unfold run kernelRun
  exact out_piece z8 0 (by decide) (out1 x0 x1 x2 x3 x4 z0 z1 z2 z3 z4) y0 i k
theorem o1_apply (y0 : BufOf (F := Ideal) c hbM5) (i : Fin 128) (k : Fin 512) :
    hbM5.view.writes (Elt Ideal) y0 (run x0 x1 x2 x3 x4 z0 z1 z2 z3 z4 z5 z6 z7 z8).o1 (ix2 i (col 512 (by decide) k))
      = (inputs x0 x1 x2 x3 x4).x3 i (col 512 (by decide) k) := by
  unfold run kernelRun
  exact out_piece z8 512 (by decide) (out2 x0 x1 x2 x3 x4 z0 z1 z2 z3 z4) y0 i k
theorem o2_apply (y0 : BufOf (F := Ideal) c hbM5) (i : Fin 128) (k : Fin 512) :
    hbM5.view.writes (Elt Ideal) y0 (run x0 x1 x2 x3 x4 z0 z1 z2 z3 z4 z5 z6 z7 z8).o2 (ix2 i (col 1024 (by decide) k))
      = (inputs x0 x1 x2 x3 x4).x3 i (col 1024 (by decide) k) := by
  unfold run kernelRun
  exact out_piece z8 1024 (by decide) (out3 x0 x1 x2 x3 x4 z0 z1 z2 z3 z4) y0 i k
theorem o3_apply (y0 : BufOf (F := Ideal) c hbM5) (i : Fin 128) (k : Fin 512) :
    hbM5.view.writes (Elt Ideal) y0 (run x0 x1 x2 x3 x4 z0 z1 z2 z3 z4 z5 z6 z7 z8).o3 (ix2 i (col 1536 (by decide) k))
      = (inputs x0 x1 x2 x3 x4).x3 i (col 1536 (by decide) k) := by
  unfold run kernelRun
  exact out_piece z8 1536 (by decide) (out4 x0 x1 x2 x3 x4 z0 z1 z2 z3 z4) y0 i k
theorem o4_apply (y0 : BufOf (F := Ideal) c hbM5) (i : Fin 128) (k : Fin 512) :
    hbM5.view.writes (Elt Ideal) y0 (run x0 x1 x2 x3 x4 z0 z1 z2 z3 z4 z5 z6 z7 z8).o4 (ix2 i (col 2048 (by decide) k))
      = (inputs x0 x1 x2 x3 x4).x3 i (col 2048 (by decide) k) := by
  unfold run kernelRun
  exact out_piece z8 2048 (by decide) (out5 x0 x1 x2 x3 x4 z0 z1 z2 z3 z4) y0 i k
theorem o5_apply (y0 : BufOf (F := Ideal) c hbM5) (i : Fin 128) (k : Fin 512) :
    hbM5.view.writes (Elt Ideal) y0 (run x0 x1 x2 x3 x4 z0 z1 z2 z3 z4 z5 z6 z7 z8).o5 (ix2 i (col 2560 (by decide) k))
      = (inputs x0 x1 x2 x3 x4).x3 i (col 2560 (by decide) k) := by
  unfold run kernelRun
  exact out_piece z8 2560 (by decide) (out6 x0 x1 x2 x3 x4 z0 z1 z2 z3 z4) y0 i k
theorem o6_apply (y0 : BufOf (F := Ideal) c hbM5) (i : Fin 128) (k : Fin 512) :
    hbM5.view.writes (Elt Ideal) y0 (run x0 x1 x2 x3 x4 z0 z1 z2 z3 z4 z5 z6 z7 z8).o6 (ix2 i (col 3072 (by decide) k))
      = (inputs x0 x1 x2 x3 x4).x3 i (col 3072 (by decide) k) := by
  unfold run kernelRun
  exact out_piece z8 3072 (by decide) (out7 x0 x1 x2 x3 x4 z0 z1 z2 z3 z4) y0 i k

end

end Cert.KernelIdeal.Hand
-- ==== Proof.Math.Results.lean ====
module

public import proofs.«01_k».proof.Proof.Math.Cross
public import Idealize.ShloMosaic.Lib.Pointwise

/-!
The five result arrays as functions of the five operands.
-/

@[expose] public section

noncomputable section

namespace Cert.Math

open Idealize.ShloMosaic

/-- The indices of an array of 128 rows and 3584 columns, and of a row of 128 entries. -/
abbrev RowsIdx := (⟨2, ![128, 3584]⟩ : Shape).Idx
abbrev RowIdx := (⟨2, ![1, 128]⟩ : Shape).Idx

/-- An index is its coordinates. -/
theorem index_rows (p : RowsIdx) : ix2 (p 0) (p 1) = p := by
  funext a
  match a with
  | 0 => rfl
  | 1 => rfl
theorem index_row (p : RowIdx) : ix2 0 (p 1) = p := by
  funext a
  match a with
  | 0 => exact Subsingleton.elim (α := Fin 1) _ _
  | 1 => rfl

/-- The state after the third layer. -/
def outArr (I : Inputs) : RowsIdx → EReal := fun p => I.x3 (p 0) (p 1)
/-- The codes of the state after the first layer, and the scales of its rows. -/
def codes1Arr (I : Inputs) : RowsIdx → EReal := fun p => codes I.x1 (p 0) (p 1)
def scales1Arr (I : Inputs) : RowIdx → EReal := fun p => rowScale I.x1 (p 1)
/-- The codes of the state after the second layer, and the scales of its rows. -/
def codes2Arr (I : Inputs) : RowsIdx → EReal := fun p => codes I.x2 (p 0) (p 1)
def scales2Arr (I : Inputs) : RowIdx → EReal := fun p => rowScale I.x2 (p 1)

/-- The five result arrays are those of the cross layers. -/
def Holds (I : Inputs) (g0 g1 : RowsIdx → EReal) (g2 : RowIdx → EReal) (g3 : RowsIdx → EReal) (g4 : RowIdx → EReal) : Prop :=
  g0 = outArr I ∧ g1 = codes1Arr I ∧ g2 = scales1Arr I ∧ g3 = codes2Arr I ∧ g4 = scales2Arr I

end Cert.Math
-- ==== Proof.KernelIdeal.Values.lean ====
module

public import proofs.«01_k».proof.Proof.KernelIdeal.Results
public import proofs.«01_k».proof.Proof.Math.Results
public import Idealize.ShloMosaic.Lib.Claim

/-!
What the kernel's result arrays hold at the end of its run, in terms of its arguments.
-/

@[expose] public section

noncomputable section

namespace Cert.KernelIdeal.Hand

open Cert.KernelIdeal Cert.KernelIdeal.Gen Cert.Math
open Idealize.ShloMosaic Idealize.ShloMosaic.TcCoe Idealize.SL.Sem

variable (m : (ℓ : Loc nD τ sig) → Buf (Elt Ideal) ℓ) (ρ : Dev nD → PrngReg)

/-- The kernel's arguments, entry by entry. -/
def argInputs (c : Dev nD) : Inputs :=
  ⟨fun i J => m ((c.tc : Thread nD τ).loc main_arg0) (ix3 0 i J), fun i => m ((c.tc : Thread nD τ).loc main_arg1) (ix2 0 i),
    fun l K J => m ((c.tc : Thread nD τ).loc main_arg2) (ix3 l K J), fun l J => m ((c.tc : Thread nD τ).loc main_arg3) (ix2 l J),
    fun l J => m ((c.tc : Thread nD τ).loc main_arg4) (ix2 l J)⟩

/-- The operands of the body are the arguments. -/
theorem inputs_eq (c : Dev nD) :
    inputs (c := c) (V m c main_v0) (V m c main_arg1) (V m c main_arg2) (V m c main_arg3) (V m c main_arg4) = argInputs m c := by
  have h0 : V m c main_v0 = shapeCast S128x3584 (m ((c.tc : Thread nD τ).loc main_arg0)) shapeCasts_S1x128x3584_S128x3584 := by
    entry_read
    rfl
  rw [h0, V_main_arg1, V_main_arg2, V_main_arg3, V_main_arg4]
  simp only [inputs, argInputs, Inputs.mk.injEq]
  exact ⟨funext fun i => funext fun J => drop_units_codes _ _ i J, rfl, rfl, rfl, rfl⟩

/-- A column of slab `j` of the output lies in the slab's rectangle. -/
theorem slab_mem (j : Fin 7) (i : Fin 128) (k : Fin 512) :
    (ix2 i (⟨512 * j.val + k.val, by omega⟩ : Fin 3584) : S128x3584.Idx) ∈ hbM5.view.setOn (oRect j).set := by
  refine (View.mem_setOn (v := hbM5.view)).2 ((LoadRect.mem_set _).2 fun a => ?_)
  match a with
  | 0 => exact ⟨i.val, i.isLt, by show i.val = 0 + 1 * i.val; omega⟩
  | 1 => exact ⟨k.val, k.isLt, by show 512 * j.val + k.val = 512 * j.val + 1 * k.val; omega⟩

/-- Every slab of the output holds the third layer's state. -/
theorem slab_apply {c : Dev nD} (x0 : BufOf (F := Ideal) c hbM0) (x1 : BufOf (F := Ideal) c hbM1) (x2 : BufOf (F := Ideal) c hbM2)
    (x3 : BufOf (F := Ideal) c hbM3) (x4 : BufOf (F := Ideal) c hbM4)
    (z0 : BufOf (F := Ideal) c scM0) (z1 : BufOf (F := Ideal) c scM1) (z2 : BufOf (F := Ideal) c scM2) (z3 : BufOf (F := Ideal) c scM3)
    (z4 : BufOf (F := Ideal) c scM4) (z5 : BufOf (F := Ideal) c scM5) (z6 : BufOf (F := Ideal) c scM6) (z7 : BufOf (F := Ideal) c scM7)
    (z8 : BufOf (F := Ideal) c scM8) (y0 : BufOf (F := Ideal) c hbM5) (j : Fin 7) (i : Fin 128) (k : Fin 512) :
    hbM5.view.writes (Elt Ideal) y0 ((run x0 x1 x2 x3 x4 z0 z1 z2 z3 z4 z5 z6 z7 z8).o j) (ix2 i (⟨512 * j.val + k.val, by omega⟩ : Fin 3584))
      = (inputs x0 x1 x2 x3 x4).x3 i ⟨512 * j.val + k.val, by omega⟩ := by
  match j with
  | 0 => exact o0_apply x0 x1 x2 x3 x4 z0 z1 z2 z3 z4 z5 z6 z7 z8 y0 i k
  | 1 => exact o1_apply x0 x1 x2 x3 x4 z0 z1 z2 z3 z4 z5 z6 z7 z8 y0 i k
  | 2 => exact o2_apply x0 x1 x2 x3 x4 z0 z1 z2 z3 z4 z5 z6 z7 z8 y0 i k
  | 3 => exact o3_apply x0 x1 x2 x3 x4 z0 z1 z2 z3 z4 z5 z6 z7 z8 y0 i k
  | 4 => exact o4_apply x0 x1 x2 x3 x4 z0 z1 z2 z3 z4 z5 z6 z7 z8 y0 i k
  | 5 => exact o5_apply x0 x1 x2 x3 x4 z0 z1 z2 z3 z4 z5 z6 z7 z8 y0 i k
  | 6 => exact o6_apply x0 x1 x2 x3 x4 z0 z1 z2 z3 z4 z5 z6 z7 z8 y0 i k

/-- An array known on every slab is known. -/
theorem of_slabs {G : S128x3584.Idx → EReal} {X : Rows}
    (h : ∀ (j : Fin 7) (i : Fin 128) (k : Fin 512), G (ix2 i (⟨512 * j.val + k.val, by omega⟩ : Fin 3584)) = X i ⟨512 * j.val + k.val, by omega⟩)
    (i : Fin 128) (J : Fin 3584) : G (ix2 i J) = X i J := by
  have hJ : (⟨512 * (J.val / 512) + J.val % 512, by omega⟩ : Fin 3584) = J := Fin.ext (Nat.div_add_mod _ _)
  have e := h ⟨J.val / 512, by omega⟩ i ⟨J.val % 512, Nat.mod_lt _ (by decide)⟩
  rwa [hJ] at e

/-- The results of the run are those of the cross layers. -/
theorem results_hold (c : Dev nD) {g0 : BufOf (F := Ideal) c hbM5} {g1 : BufOf (F := Ideal) c hbM6} {g2 : BufOf (F := Ideal) c hbM7}
    {g3 : BufOf (F := Ideal) c hbM8} {g4 : BufOf (F := Ideal) c hbM9} (h : Results m c g0 g1 g2 g3 g4) :
    Holds (argInputs m c) g0 g1 g2 g3 g4 := by
  obtain ⟨z0, z1, z2, z3, z4, z5, z6, z7, z8, y0, h0, h1, h2, h3, h4⟩ := h
  rw [← inputs_eq]
  refine ⟨?_, ?_, ?_, ?_, ?_⟩
  · funext p
    rw [← index_rows p]
    exact of_slabs (G := g0) (fun j i k => (h0 j _ (slab_mem j i k)).trans
      (slab_apply _ _ _ _ _ z0 z1 z2 z3 z4 z5 z6 z7 z8 y0 j i k)) (p 0) (p 1)
  · funext p
    rw [h1, ← index_rows p]
    exact c1_apply _ _ _ _ _ z0 z1 z2 z3 z4 z5 z6 z7 z8 (p 0) (p 1)
  · funext p
    rw [h2, ← index_row p]
    exact s1_apply _ _ _ _ _ z0 z1 z2 z3 z4 z5 z6 z7 z8 (p 1)
  · funext p
    rw [h3, ← index_rows p]
    exact c2_apply _ _ _ _ _ z0 z1 z2 z3 z4 z5 z6 z7 z8 (p 0) (p 1)
  · funext p
    rw [h4, ← index_row p]
    exact s2_apply _ _ _ _ _ z0 z1 z2 z3 z4 z5 z6 z7 z8 (p 1)

/-- The kernel runs to completion, and its results are those of the cross layers. -/
theorem run_holds : θ_run defs (onTc (τ := τ) (main (F := Ideal))) ⟨m, fun _ => 0, ρ⟩ (fun r => ∀ c : Dev nD,
    Holds (argInputs m c) (r.2.mem ((c.tc : Thread nD τ).loc main_v1_0)) (r.2.mem ((c.tc : Thread nD τ).loc main_v1_1))
        (r.2.mem ((c.tc : Thread nD τ).loc main_v1_2)) (r.2.mem ((c.tc : Thread nD τ).loc main_v1_3)) (r.2.mem ((c.tc : Thread nD τ).loc main_v1_4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨results_hold m c (h.1 c).2, (h.1 c).1.1.trans (V_main_arg0 m c),
    (h.1 c).1.2.1.trans (V_main_arg1 m c), (h.1 c).1.2.2.1.trans (V_main_arg2 m c), (h.1 c).1.2.2.2.1.trans (V_main_arg3 m c),
    (h.1 c).1.2.2.2.2.trans (V_main_arg4 m c)⟩) (run_main m ρ)

end Cert.KernelIdeal.Hand
-- ==== Proof.ReferenceIdeal.Entries.lean ====
module

public import proofs.«01_k».proof.Proof.Gen.ReferenceIdeal.Frame
public import proofs.«01_k».proof.Proof.Math.Cross
public import Idealize.ShloMosaic.Lib.Pointwise
public import Idealize.ShloMosaic.Lib.Pipeline.ValueKit

/-!
What the reference computes from its five operands, entry by entry.
-/

@[expose] public section

noncomputable section

namespace Cert.ReferenceIdeal.Hand

open Cert.ReferenceIdeal Cert.ReferenceIdeal.Gen Cert.Math
open Idealize.ShloMosaic Idealize.ShloMosaic.TcCoe Idealize.SL.Sem

/-! ## The payloads of the body -/

/-- The fold of the reference begins at the least number. -/
theorem fold_start : Ideal.ofBits .f32 0xFF800000#32 = ⊥ := by simp [Ideal.ofBits, Ideal.ieee]

/-- The input. -/
theorem input_apply {v0 : Vec Ideal S128x3584 .fp8e4m3} {v2 : Vec Ideal S128x1 .f32} (i : Fin 128) (J : Fin 3584) :
    k0_pay7 v0 v2 (ix2 i J) = v0 (ix2 i J) * v2 (ix2 i 0) := by
  pointwise [k0_pay7, k0_pay5, k0_pay6]

/-- The state after the first layer. -/
theorem first_apply {v0 : Vec Ideal S128x3584 .fp8e4m3} {v2 : Vec Ideal S128x1 .f32} {w : Vec Ideal S1x3584x3584 .fp8e4m3}
    {ws b : Vec Ideal S1x3584 .f32} {C : Rows} {s : Fin 128 → EReal} {W : Fin 3584 → Fin 3584 → EReal} {Ws B : Fin 3584 → EReal}
    (h0 : ∀ i J, v0 (ix2 i J) = C i J) (h2 : ∀ i, v2 (ix2 i 0) = s i) (hw : ∀ K J, w (ix3 0 K J) = W K J)
    (hws : ∀ J, ws (ix2 0 J) = Ws J) (hb : ∀ J, b (ix2 0 J) = B J) (i : Fin 128) (J : Fin 3584) :
    k0_pay8 v0 v2 w ws b (ix2 i J) = layer (fun i J => C i J * s i) C s W Ws B (fun i J => C i J * s i) i J := by
  pointwise [k0_pay8, k0_pay7, k0_pay5, k0_pay6]
  simp only [h0, h2, hw, hws, hb, layer, dense]

/-- The exponents of the scales of the first boundary. -/
theorem firstExpo_apply {v0 : Vec Ideal S128x3584 .fp8e4m3} {v2 : Vec Ideal S128x1 .f32} {w : Vec Ideal S1x3584x3584 .fp8e4m3}
    {ws b : Vec Ideal S1x3584 .f32} {X : Rows} (h : ∀ i J, k0_pay8 v0 v2 w ws b (ix2 i J) = X i J) (i : Fin 128) :
    k0_pay9 v0 v2 w ws b (ix2 i 0) = expo (rowPeak X i) := by
  pointwise [k0_pay9]
  simp only [h, fold_start]
  rfl

/-- The scales of the first boundary. -/
theorem firstScale_apply {v0 : Vec Ideal S128x3584 .fp8e4m3} {v2 : Vec Ideal S128x1 .f32} {w : Vec Ideal S1x3584x3584 .fp8e4m3}
    {ws b : Vec Ideal S1x3584 .f32} {X : Rows} (h : ∀ i J, k0_pay8 v0 v2 w ws b (ix2 i J) = X i J) (i : Fin 128) :
    k0_pay10 v0 v2 w ws b (ix2 i 0) = rowScale X i := by
  pointwise [k0_pay10]
  rw [firstExpo_apply h]
  rfl

/-- The codes of the first boundary. -/
theorem firstCodes_apply {v : FVec Ideal S128x3584 .f32} {e z : FVec Ideal S128x1 .f32} {X : Rows} (hv : ∀ i J, v (ix2 i J) = X i J)
    (he : ∀ i, e (ix2 i 0) = expo (rowPeak X i)) (hz : ∀ i, z (ix2 i 0) = 0) (i : Fin 128) (J : Fin 3584) :
    k0_pay12 v e z (ix2 i J) = codes X i J := by
  pointwise [k0_pay12]
  simp only [hv, he, hz, codes, rowInv]
  rfl

/-- The codes of the second boundary. -/
theorem secondCodes_apply {v : FVec Ideal S128x3584 .f32} {e z : FVec Ideal S128x1 .f32} {X : Rows} (hv : ∀ i J, v (ix2 i J) = X i J)
    (he : ∀ i, e (ix2 i 0) = expo (rowPeak X i)) (hz : ∀ i, z (ix2 i 0) = 0) (i : Fin 128) (J : Fin 3584) :
    k0_pay1 v e z (ix2 i J) = codes X i J := by
  pointwise [k0_pay1]
  simp only [hv, he, hz, codes, rowInv]
  rfl

section
variable {x v : FVec Ideal S128x3584 .f32} {e s z : FVec Ideal S128x1 .f32} {w : Vec Ideal S1x3584x3584 .fp8e4m3}
  {ws b : Vec Ideal S1x3584 .f32} {X0 X : Rows} {W : Fin 3584 → Fin 3584 → EReal} {Ws B : Fin 3584 → EReal}

/-- The state after the second layer. -/
theorem second_apply (hx : ∀ i J, x (ix2 i J) = X0 i J) (hv : ∀ i J, v (ix2 i J) = X i J) (he : ∀ i, e (ix2 i 0) = expo (rowPeak X i))
    (hs : ∀ i, s (ix2 i 0) = rowScale X i) (hz : ∀ i, z (ix2 i 0) = 0) (hw : ∀ K J, w (ix3 0 K J) = W K J)
    (hws : ∀ J, ws (ix2 0 J) = Ws J) (hb : ∀ J, b (ix2 0 J) = B J) (i : Fin 128) (J : Fin 3584) :
    k0_pay13 x v e s z w ws b (ix2 i J) = layer X0 (codes X) (rowScale X) W Ws B X i J := by
  pointwise [k0_pay13]
  simp only [hx, hv, hs, hw, hws, hb, firstCodes_apply hv he hz, layer, dense]

/-- The output. -/
theorem third_apply (hx : ∀ i J, x (ix2 i J) = X0 i J) (hv : ∀ i J, v (ix2 i J) = X i J) (he : ∀ i, e (ix2 i 0) = expo (rowPeak X i))
    (hs : ∀ i, s (ix2 i 0) = rowScale X i) (hz : ∀ i, z (ix2 i 0) = 0) (hw : ∀ K J, w (ix3 0 K J) = W K J)
    (hws : ∀ J, ws (ix2 0 J) = Ws J) (hb : ∀ J, b (ix2 0 J) = B J) (i : Fin 128) (J : Fin 3584) :
    k0_pay2 x v e s z w ws b (ix2 i J) = layer X0 (codes X) (rowScale X) W Ws B X i J := by
  pointwise [k0_pay2]
  simp only [hx, hv, hs, hw, hws, hb, secondCodes_apply hv he hz, layer, dense]

/-- The exponents of the scales of the second boundary. -/
theorem secondExpo_apply {Y : Rows} (h : ∀ i J, k0_pay13 x v e s z w ws b (ix2 i J) = Y i J) (i : Fin 128) :
    k0_pay14 x v e s z w ws b (ix2 i 0) = expo (rowPeak Y i) := by
  pointwise [k0_pay14]
  simp only [h, fold_start]
  rfl

/-- The scales of the second boundary. -/
theorem secondScale_apply {Y : Rows} (h : ∀ i J, k0_pay13 x v e s z w ws b (ix2 i J) = Y i J) (i : Fin 128) :
    k0_pay15 x v e s z w ws b (ix2 i 0) = rowScale Y i := by
  pointwise [k0_pay15]
  rw [secondExpo_apply h]
  rfl

end

/-- The zeros from which the exponents are subtracted. -/
theorem zero1_apply (i : Fin 128) : k0_pay11 (F := Ideal) (ix2 i 0) = 0 := by
  pointwise [k0_pay11]
theorem zero2_apply (i : Fin 128) : k0_pay16 (F := Ideal) (ix2 i 0) = 0 := by
  pointwise [k0_pay16]

/-! ## The five results -/

variable (x0 : Vec Ideal S128x3584 .fp8e4m3) (x1 : Vec Ideal S128x1 .f32) (x2 : Vec Ideal S3x3584x3584 .fp8e4m3)
  (x3 x4 : Vec Ideal S3x3584 .f32)

/-- The five operands, entry by entry. -/
def inputs : Inputs :=
  ⟨fun i J => x0 (ix2 i J), fun i => x1 (ix2 i 0), fun l K J => x2 (ix3 l K J), fun l J => x3 (ix2 l J), fun l J => x4 (ix2 l J)⟩

/-- The loads of the body. -/
theorem ld_x (i : Fin 128) (J : Fin 3584) : View.ld x0 r0_0 (ix2 i J) = x0 (ix2 i J) := by pointwise []
theorem ld_s (i : Fin 128) : View.ld x1 r0_1 (ix2 i 0) = x1 (ix2 i 0) := by pointwise []
theorem ld_w0 (K J : Fin 3584) : View.ld x2 r0_2 (ix3 0 K J) = x2 (ix3 0 K J) := by pointwise []
theorem ld_w1 (K J : Fin 3584) : View.ld x2 r0_4 (ix3 0 K J) = x2 (ix3 1 K J) := by pointwise []
theorem ld_w2 (K J : Fin 3584) : View.ld x2 r0_6 (ix3 0 K J) = x2 (ix3 2 K J) := by pointwise []
theorem ld_r0 (J : Fin 3584) : View.ld x3 r0_3 (ix2 0 J) = x3 (ix2 0 J) := by pointwise []
theorem ld_r1 (J : Fin 3584) : View.ld x3 r0_5 (ix2 0 J) = x3 (ix2 1 J) := by pointwise []
theorem ld_r2 (J : Fin 3584) : View.ld x3 r0_7 (ix2 0 J) = x3 (ix2 2 J) := by pointwise []

/-- The input. -/
theorem pay17_apply (i : Fin 128) (J : Fin 3584) : k0_pay17 x0 x1 x2 x3 x4 (ix2 i J) = (inputs x0 x1 x2 x3 x4).x0 i J := by
  rw [k0_pay17, input_apply, ld_x, ld_s]
  rfl

/-- The first layer. -/
theorem pay18_apply (i : Fin 128) (J : Fin 3584) : k0_pay18 x0 x1 x2 x3 x4 (ix2 i J) = (inputs x0 x1 x2 x3 x4).x1 i J :=
  first_apply (ld_x x0) (ld_s x1) (ld_w0 x2) (ld_r0 x3) (ld_r0 x4) i J

/-- Its exponents. -/
theorem pay19_apply (i : Fin 128) : k0_pay19 x0 x1 x2 x3 x4 (ix2 i 0) = expo (rowPeak (inputs x0 x1 x2 x3 x4).x1 i) :=
  firstExpo_apply (pay18_apply x0 x1 x2 x3 x4) i

/-- Its scales. -/
theorem pay20_apply (i : Fin 128) : k0_pay20 x0 x1 x2 x3 x4 (ix2 i 0) = rowScale (inputs x0 x1 x2 x3 x4).x1 i :=
  firstScale_apply (pay18_apply x0 x1 x2 x3 x4) i

/-- The second layer. -/
theorem pay22_apply (i : Fin 128) (J : Fin 3584) : k0_pay22 x0 x1 x2 x3 x4 (ix2 i J) = (inputs x0 x1 x2 x3 x4).x2 i J :=
  second_apply (pay17_apply x0 x1 x2 x3 x4) (pay18_apply x0 x1 x2 x3 x4) (pay19_apply x0 x1 x2 x3 x4) (pay20_apply x0 x1 x2 x3 x4)
    zero1_apply (ld_w1 x2) (ld_r1 x3) (ld_r1 x4) i J

/-- Its exponents. -/
theorem pay23_apply (i : Fin 128) : k0_pay23 x0 x1 x2 x3 x4 (ix2 i 0) = expo (rowPeak (inputs x0 x1 x2 x3 x4).x2 i) :=
  secondExpo_apply (pay22_apply x0 x1 x2 x3 x4) i

/-- Its scales. -/
theorem pay24_apply (i : Fin 128) : k0_pay24 x0 x1 x2 x3 x4 (ix2 i 0) = rowScale (inputs x0 x1 x2 x3 x4).x2 i :=
  secondScale_apply (pay22_apply x0 x1 x2 x3 x4) i

/-- The output. -/
theorem out5_apply (i : Fin 128) (J : Fin 3584) : out0_5 x0 x1 x2 x3 x4 (ix2 i J) = (inputs x0 x1 x2 x3 x4).x3 i J := by
  rw [out0_5, View.canon_cons_unit_lit _ _ _ (by decide)]
  exact third_apply (pay17_apply x0 x1 x2 x3 x4) (pay22_apply x0 x1 x2 x3 x4) (pay23_apply x0 x1 x2 x3 x4) (pay24_apply x0 x1 x2 x3 x4)
    zero2_apply (ld_w2 x2) (ld_r2 x3) (ld_r2 x4) i J

/-- The codes of the first boundary. -/
theorem out6_apply (i : Fin 128) (J : Fin 3584) : out0_6 x0 x1 x2 x3 x4 (ix2 i J) = codes (inputs x0 x1 x2 x3 x4).x1 i J := by
  rw [out0_6, View.canon_cons_unit_lit _ _ _ (by decide)]
  exact firstCodes_apply (pay18_apply x0 x1 x2 x3 x4) (pay19_apply x0 x1 x2 x3 x4) zero1_apply i J

/-- The scales of the first boundary. -/
theorem out7_apply (i : Fin 128) : out0_7 x0 x1 x2 x3 x4 (ix2 0 i) = rowScale (inputs x0 x1 x2 x3 x4).x1 i := by
  rw [out0_7, View.canon_cons_unit_lit _ _ _ (by decide), ← pay20_apply]
  pointwise [k0_pay3]

/-- The codes of the second boundary. -/
theorem out8_apply (i : Fin 128) (J : Fin 3584) : out0_8 x0 x1 x2 x3 x4 (ix2 i J) = codes (inputs x0 x1 x2 x3 x4).x2 i J := by
  rw [out0_8, View.canon_cons_unit_lit _ _ _ (by decide)]
  exact secondCodes_apply (pay22_apply x0 x1 x2 x3 x4) (pay23_apply x0 x1 x2 x3 x4) zero2_apply i J

/-- The scales of the second boundary. -/
theorem out9_apply (i : Fin 128) : out0_9 x0 x1 x2 x3 x4 (ix2 0 i) = rowScale (inputs x0 x1 x2 x3 x4).x2 i := by
  rw [out0_9, View.canon_cons_unit_lit _ _ _ (by decide), ← pay24_apply]
  pointwise [k0_pay4]

end Cert.ReferenceIdeal.Hand
-- ==== Proof.ReferenceIdeal.Values.lean ====
module

public import proofs.«01_k».proof.Proof.ReferenceIdeal.Entries
public import proofs.«01_k».proof.Proof.Math.Results
public import Idealize.ShloMosaic.Lib.Claim

/-!
What the reference's result arrays hold at the end of its run, in terms of its arguments.
-/

@[expose] public section

noncomputable section

namespace Cert.ReferenceIdeal.Hand

open Cert.ReferenceIdeal Cert.ReferenceIdeal.Gen Cert.Math
open Idealize.ShloMosaic Idealize.ShloMosaic.TcCoe Idealize.SL.Sem

variable (m : (ℓ : Loc nD τ sig) → Buf (Elt Ideal) ℓ) (ρ : Dev nD → PrngReg)

/-- The reference's arguments, entry by entry. -/
def argInputs (c : Dev nD) : Inputs :=
  ⟨fun i J => m ((c.tc : Thread nD τ).loc main_arg0) (ix3 0 i J), fun i => m ((c.tc : Thread nD τ).loc main_arg1) (ix2 0 i),
    fun l K J => m ((c.tc : Thread nD τ).loc main_arg2) (ix3 l K J), fun l J => m ((c.tc : Thread nD τ).loc main_arg3) (ix2 l J),
    fun l J => m ((c.tc : Thread nD τ).loc main_arg4) (ix2 l J)⟩

/-! ## The operands of the body -/

/-- A block of shape 1x128x3584 without its unit axis. -/
theorem drop_unit_x (v : Vec Ideal S1x128x3584 .fp8e4m3) (h : S1x128x3584.ShapeCasts S128x3584) (i : Fin 128) (J : Fin 3584) :
    shapeCast S128x3584 v h (ix2 i J) = v (ix3 0 i J) := by
  pointwise []

/-- A row laid out as a column. -/
theorem column_of_row (v : Vec Ideal S1x128 .f32) (h : S1x128.ShapeCasts S128x1) (i : Fin 128) :
    shapeCast S128x1 v h (ix2 i 0) = v (ix2 0 i) := by
  pointwise []

theorem index0 : ∀ t : Fin grid0.N, win0_0.index t = ![0, 0] := by decide +kernel
theorem index1 : ∀ t : Fin grid0.N, win0_1.index t = ![0, 0] := by decide +kernel
theorem index2 : ∀ t : Fin grid0.N, win0_2.index t = ![0, 0, 0] := by decide +kernel
theorem index3 : ∀ t : Fin grid0.N, win0_3.index t = ![0, 0] := by decide +kernel
theorem index4 : ∀ t : Fin grid0.N, win0_4.index t = ![0, 0] := by decide +kernel

theorem iblk2_eq (c : Dev nD) : iblk m c 2 t0_0 = m ((c.tc : Thread nD τ).loc main_arg2) := by
  funext y
  blk_simp [iblk]
  rw [V_main_arg2]
  exact congrArg (m ((c.tc : Thread nD τ).loc main_arg2)) (by blk_ext [index2])
theorem iblk3_eq (c : Dev nD) : iblk m c 3 t0_0 = m ((c.tc : Thread nD τ).loc main_arg3) := by
  funext y
  blk_simp [iblk]
  rw [V_main_arg3]
  exact congrArg (m ((c.tc : Thread nD τ).loc main_arg3)) (by blk_ext [index3])
theorem iblk4_eq (c : Dev nD) : iblk m c 4 t0_0 = m ((c.tc : Thread nD τ).loc main_arg4) := by
  funext y
  blk_simp [iblk]
  rw [V_main_arg4]
  exact congrArg (m ((c.tc : Thread nD τ).loc main_arg4)) (by blk_ext [index4])
theorem iblk0_eq (c : Dev nD) : iblk m c 0 t0_0 = shapeCast S128x3584 (m ((c.tc : Thread nD τ).loc main_arg0)) shapeCasts_S1x128x3584_S128x3584 := by
  have h : V m c main_v0 = shapeCast S128x3584 (m ((c.tc : Thread nD τ).loc main_arg0)) shapeCasts_S1x128x3584_S128x3584 := by
    entry_read
    rfl
  funext y
  blk_simp [iblk]
  rw [h]
  exact congrArg (shapeCast S128x3584 (m ((c.tc : Thread nD τ).loc main_arg0)) shapeCasts_S1x128x3584_S128x3584) (by blk_ext [index0])
theorem iblk1_eq (c : Dev nD) : iblk m c 1 t0_0 = shapeCast S128x1 (m ((c.tc : Thread nD τ).loc main_arg1)) shapeCasts_S1x128_S128x1 := by
  have h : V m c main_v1 = shapeCast S128x1 (m ((c.tc : Thread nD τ).loc main_arg1)) shapeCasts_S1x128_S128x1 := by
    entry_read
    rfl
  funext y
  blk_simp [iblk]
  rw [h]
  exact congrArg (shapeCast S128x1 (m ((c.tc : Thread nD τ).loc main_arg1)) shapeCasts_S1x128_S128x1) (by blk_ext [index1])

/-- The operands of the body are the arguments. -/
theorem inputs_eq (c : Dev nD) :
    inputs (iblk m c 0 t0_0) (iblk m c 1 t0_0) (iblk m c 2 t0_0) (iblk m c 3 t0_0) (iblk m c 4 t0_0) = argInputs m c := by
  rw [iblk0_eq, iblk1_eq, iblk2_eq, iblk3_eq, iblk4_eq]
  simp only [inputs, argInputs, Inputs.mk.injEq]
  exact ⟨funext fun i => funext fun J => drop_unit_x _ _ i J, funext fun i => column_of_row _ _ i, trivial, trivial, trivial⟩

/-! ## The result arrays -/

/-- What the result arrays hold when the region ends. -/
theorem arr5 (c : Dev nD) : (dats m 0 c).arrAt 5 cfg0.N = outArr (argInputs m c) := by
  funext p
  refine ((dats m 0 c).arrAt_emb_eq_after_last 5 t0_0 (by decide +kernel) p).trans ?_
  blk_simp
  rw [after0_5, ← inputs_eq, ← index_rows p]
  exact out5_apply _ _ _ _ _ (p 0) (p 1)
theorem arr6 (c : Dev nD) : (dats m 0 c).arrAt 6 cfg0.N = codes1Arr (argInputs m c) := by
  funext p
  refine ((dats m 0 c).arrAt_emb_eq_after_last 6 t0_0 (by decide +kernel) p).trans ?_
  blk_simp
  rw [after0_6, ← inputs_eq, ← index_rows p]
  exact out6_apply _ _ _ _ _ (p 0) (p 1)
theorem arr7 (c : Dev nD) : (dats m 0 c).arrAt 7 cfg0.N = scales1Arr (argInputs m c) := by
  funext p
  refine ((dats m 0 c).arrAt_emb_eq_after_last 7 t0_0 (by decide +kernel) p).trans ?_
  blk_simp
  rw [after0_7, ← inputs_eq, ← index_row p]
  exact out7_apply _ _ _ _ _ (p 1)
theorem arr8 (c : Dev nD) : (dats m 0 c).arrAt 8 cfg0.N = codes2Arr (argInputs m c) := by
  funext p
  refine ((dats m 0 c).arrAt_emb_eq_after_last 8 t0_0 (by decide +kernel) p).trans ?_
  blk_simp
  rw [after0_8, ← inputs_eq, ← index_rows p]
  exact out8_apply _ _ _ _ _ (p 0) (p 1)
theorem arr9 (c : Dev nD) : (dats m 0 c).arrAt 9 cfg0.N = scales2Arr (argInputs m c) := by
  funext p
  refine ((dats m 0 c).arrAt_emb_eq_after_last 9 t0_0 (by decide +kernel) p).trans ?_
  blk_simp
  rw [after0_9, ← inputs_eq, ← index_row p]
  exact out9_apply _ _ _ _ _ (p 1)

/-- The reference runs to completion, and its results are those of the cross layers. -/
theorem run_holds : θ_run defs (onTc (τ := τ) (main (F := Ideal))) ⟨m, fun _ => 0, ρ⟩ (fun r => ∀ c : Dev nD,
    Holds (argInputs m c) (r.2.mem ((c.tc : Thread nD τ).loc main_v2_0)) (r.2.mem ((c.tc : Thread nD τ).loc main_v2_1))
        (r.2.mem ((c.tc : Thread nD τ).loc main_v2_2)) (r.2.mem ((c.tc : Thread nD τ).loc main_v2_3)) (r.2.mem ((c.tc : Thread nD τ).loc main_v2_4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨⟨((h c).1 5).trans (arr5 m c), ((h c).1 6).trans (arr6 m c), ((h c).1 7).trans (arr7 m c), ((h c).1 8).trans (arr8 m c),
        ((h c).1 9).trans (arr9 m c)⟩,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end Cert.ReferenceIdeal.Hand
-- ==== Proof.Equation.lean ====
module

public import proofs.«01_k».proof.Defs
public import proofs.«01_k».proof.Proof.KernelIdeal.Values
public import proofs.«01_k».proof.Proof.ReferenceIdeal.Values

/-!
The kernel and the reference, run from equal arguments, end with equal results.
-/

@[expose] public section

noncomputable section

namespace Cert

open Idealize.ShloMosaic Idealize.ShloMosaic.TcCoe Idealize.SL.Sem

/-- From memories that agree on the arguments, both programs end with the results of the cross layers and with their arguments
    unchanged. -/
theorem equation : algebraic_KernelIdeal_ReferenceIdeal (hKernelIdeal := KernelIdeal.Gen.facts) (hReferenceIdeal := ReferenceIdeal.Gen.facts) := by
  intro m g m' g' _ hargs
  have hI : ∀ c, ReferenceIdeal.Hand.argInputs m' c = KernelIdeal.Hand.argInputs m c := fun c => by
    obtain ⟨h0, h1, h2, h3, h4⟩ := hargs c
    unfold ReferenceIdeal.Hand.argInputs KernelIdeal.Hand.argInputs
    rw [h0, h1, h2, h3, h4]
  refine ⟨fun c => Math.outArr (KernelIdeal.Hand.argInputs m c), fun c => Math.codes1Arr (KernelIdeal.Hand.argInputs m c),
    fun c => Math.scales1Arr (KernelIdeal.Hand.argInputs m c), fun c => Math.codes2Arr (KernelIdeal.Hand.argInputs m c),
    fun c => Math.scales2Arr (KernelIdeal.Hand.argInputs m c), ?_, ?_⟩
  · refine (θ_run KernelIdeal.defs _ _).mono (fun _ h c => ?_) (KernelIdeal.Hand.run_holds m g)
    obtain ⟨⟨h0, h1, h2, h3, h4⟩, h⟩ := h c
    exact ⟨h0, h1, h2, h3, h4, h⟩
  · refine (θ_run ReferenceIdeal.defs _ _).mono (fun _ h c => ?_) (ReferenceIdeal.Hand.run_holds m' g')
    obtain ⟨H, h⟩ := h c
    rw [hI c] at H
    obtain ⟨h0, h1, h2, h3, h4⟩ := H
    exact ⟨h0, h1, h2, h3, h4, h⟩

end Cert
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The three programs run without fault, end with their arguments unchanged and their semaphores at zero, and the kernel read at
    the extended reals ends with the results of the reference. -/
theorem claim : Cert.Claim :=
  ⟨Cert.Kernel.Gen.facts, Cert.KernelIdeal.Gen.facts, Cert.ReferenceIdeal.Gen.facts,
    fun m g _ => Cert.Kernel.Hand.frame m g, fun m g _ => Cert.KernelIdeal.Hand.frame m g,
    fun m g _ => Cert.ReferenceIdeal.Gen.frame m g, trivial, Cert.equation⟩

end Cert.Proof

end
